-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![4096, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![4096, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![4096, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S1024x512 : Shape := ⟨2, ![1024, 512]⟩
abbrev S3x4x256x512 : Shape := ⟨4, ![3, 4, 256, 512]⟩
abbrev S3x1024x1 : Shape := ⟨3, ![3, 1024, 1]⟩
abbrev S3 : Shape := ⟨1, ![3]⟩
abbrev S_ : Shape := ⟨0, ![]⟩
abbrev S1 : Shape := ⟨1, ![1]⟩
abbrev S1x4x256x512 : Shape := ⟨4, ![1, 4, 256, 512]⟩
abbrev S1x1024x1 : Shape := ⟨3, ![1, 1024, 1]⟩
abbrev S1x256x512 : Shape := ⟨3, ![1, 256, 512]⟩
abbrev S256x512 : Shape := ⟨2, ![256, 512]⟩
abbrev S1x1x256x512 : Shape := ⟨4, ![1, 1, 256, 512]⟩
abbrev S1024x16 : Shape := ⟨2, ![1024, 16]⟩
abbrev S1024x1024 : Shape := ⟨2, ![1024, 1024]⟩
abbrev S1x16 : Shape := ⟨2, ![1, 16]⟩
abbrev S16 : Shape := ⟨1, ![16]⟩
abbrev S1024 : Shape := ⟨1, ![1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x1, .i32⟩
  | .hbm, ⟨3, _⟩ => ⟨S4x256x512, .f32⟩
  | .hbm, ⟨4, _⟩ => ⟨S1024x512, .f32⟩
  | .local _ .vmem, ⟨0, _⟩ => ⟨S1024x256, .f32⟩
  | .local _ .vmem, ⟨1, _⟩ => ⟨S1024x1, .i32⟩
  | .local _ .vmem, ⟨2, _⟩ => ⟨S4x256x512, .f32⟩
  | .local _ .vmem, ⟨3, _⟩ => ⟨S1024x512, .f32⟩
  | .local _ .vmem, ⟨4, _⟩ => ⟨S3x4x256x512, .f32⟩
  | .local _ .vmem, ⟨5, _⟩ => ⟨S3x1024x1, .i32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_18 : BitVec 32 := 1#32
  let v19 : BitVec 32 := Scalar.muli v7 c1_i32_18
  let v20 : BitVec 32 := Scalar.addi c0_i32_19 v19
  v20.toNat
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_26 : BitVec 32 := 1#32
  let v27 : BitVec 32 := Scalar.muli v7 c1_i32_26
  let v28 : BitVec 32 := Scalar.addi c0_i32_27 v27
  v28.toNat
def k0_dev5 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_86 : BitVec 32 := 1#32
  let v106 : BitVec 32 := Scalar.muli v7 c1_i32_86
  let v107 : BitVec 32 := Scalar.addi c0_i32_87 v106
  v107.toNat
def k0_dev6 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_98 : BitVec 32 := 1#32
  let v116 : BitVec 32 := Scalar.muli v7 c1_i32_98
  let v117 : BitVec 32 := Scalar.addi c0_i32_99 v116
  v117.toNat
def k0_dev7 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_185 : BitVec 32 := 1#32
  let v208 : BitVec 32 := Scalar.muli v7 c1_i32_185
  let v209 : BitVec 32 := Scalar.addi c0_i32_186 v208
  v209.toNat
def k0_dev8 (d0 : Dev nD) : Nat :=
  let c0_i32_198 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_197 : BitVec 32 := 1#32
  let v218 : BitVec 32 := Scalar.muli v7 c1_i32_197
  let v219 : BitVec 32 := Scalar.addi c0_i32_198 v218
  v219.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x256 : Shape := ⟨2, ![4096, 256]⟩
abbrev S256x16 : Shape := ⟨2, ![256, 16]⟩
abbrev S4096x1 : Shape := ⟨2, ![4096, 1]⟩
abbrev S16x256x512 : Shape := ⟨3, ![16, 256, 512]⟩
abbrev S16 : Shape := ⟨1, ![16]⟩
abbrev S_ : Shape := ⟨0, ![]⟩
abbrev S4096 : Shape := ⟨1, ![4096]⟩
abbrev S4096x16 : Shape := ⟨2, ![4096, 16]⟩
abbrev S1 : Shape := ⟨1, ![1]⟩
abbrev S1x16 : Shape := ⟨2, ![1, 16]⟩
abbrev S4096x16x512 : Shape := ⟨3, ![4096, 16, 512]⟩
abbrev S4096x16x1 : Shape := ⟨3, ![4096, 16, 1]⟩
abbrev S4096x512 : Shape := ⟨2, ![4096, 512]⟩

abbrev nBuf : Space → Nat
  | .hbm => 42
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16, .f32⟩
  | .hbm, ⟨2, _⟩ => ⟨S4096x1, .i32⟩
  | .hbm, ⟨3, _⟩ => ⟨S16x256x512, .f32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S4096, .i32⟩
  | .hbm, ⟨8, _⟩ => ⟨S_, .i1⟩
  | .hbm, ⟨9, _⟩ => ⟨S4096x16, .i1⟩
  | .hbm, ⟨10, _⟩ => ⟨S_, .i32⟩
  | .hbm, ⟨11, _⟩ => ⟨S4096, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S4096x16, .i1⟩
  | .hbm, ⟨16, _⟩ => ⟨S_, .i32⟩
  | .hbm, ⟨17, _⟩ => ⟨S_, .i1⟩
  | .hbm, ⟨18, _⟩ => ⟨S1, .i32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S_, .i32⟩
  | .hbm, ⟨23, _⟩ => ⟨S16, .i32⟩
  | .hbm, ⟨24, _⟩ => ⟨S16, .i1⟩
  | .hbm, ⟨25, _⟩ => ⟨S16, .i1⟩
  | .hbm, ⟨26, _⟩ => ⟨S16, .i32⟩
  | .hbm, ⟨27, _⟩ => ⟨S16, .i32⟩
  | .hbm, ⟨28, _⟩ => ⟨S1x16, .i1⟩
  | .hbm, ⟨29, _⟩ => ⟨S_, .i32⟩
  | .hbm, ⟨30, _⟩ => ⟨S4096x16, .i1⟩
  | .hbm, ⟨31, _⟩ => ⟨S_, .i32⟩
  | .hbm, ⟨32, _⟩ => ⟨S_, .i32⟩
  | .hbm, ⟨33, _⟩ => ⟨S4096x16x512, .f32⟩
  | .hbm, ⟨34, _⟩ => ⟨S4096x16x1, .i1⟩
  | .hbm, ⟨35, _⟩ => ⟨S_, .f32⟩
  | .hbm, ⟨36, _⟩ => ⟨S_, .f32⟩
  | .hbm, ⟨37, _⟩ => ⟨S4096x16x512, .i1⟩
  | .hbm, ⟨38, _⟩ => ⟨S4096x16x512, .f32⟩
  | .hbm, ⟨39, _⟩ => ⟨S4096x16x512, .f32⟩
  | .hbm, ⟨40, _⟩ => ⟨S_, .f32⟩
  | .hbm, ⟨41, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_c_1 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_while0c_c_7 : Ref sig .tc := ⟨.hbm, 16, rfl⟩
abbrev main_while0c_v9 : Ref sig .tc := ⟨.hbm, 17, rfl⟩
abbrev main_while0b_call0_v0 : Ref sig .tc := ⟨.hbm, 18, rfl⟩
abbrev main_while0b_v9 : Ref sig .tc := ⟨.hbm, 19, rfl⟩
abbrev main_while0b_v10 : Ref sig .tc := ⟨.hbm, 20, rfl⟩
abbrev main_while0b_v11 : Ref sig .tc := ⟨.hbm, 21, rfl⟩
abbrev main_while0b_c_7 : Ref sig .tc := ⟨.hbm, 22, rfl⟩
abbrev main_while0b_v12 : Ref sig .tc := ⟨.hbm, 23, rfl⟩
abbrev main_while0b_v13 : Ref sig .tc := ⟨.hbm, 24, rfl⟩
abbrev main_while0b_v14 : Ref sig .tc := ⟨.hbm, 25, rfl⟩
abbrev main_while0b_v15 : Ref sig .tc := ⟨.hbm, 26, rfl⟩
abbrev main_while0b_v16 : Ref sig .tc := ⟨.hbm, 27, rfl⟩
abbrev main_while0b_call1_v0 : Ref sig .tc := ⟨.hbm, 28, rfl⟩
abbrev main_while0b_call1_c : Ref sig .tc := ⟨.hbm, 29, rfl⟩
abbrev main_while0b_v17 : Ref sig .tc := ⟨.hbm, 30, rfl⟩
abbrev main_while0b_c_8 : Ref sig .tc := ⟨.hbm, 31, rfl⟩
abbrev main_while0b_v18 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v7 : Ref sig .tc := ⟨.hbm, 39, rfl⟩
abbrev main_cst_2 : Ref sig .tc := ⟨.hbm, 40, rfl⟩
abbrev main_v8 : Ref sig .tc := ⟨.hbm, 41, rfl⟩

abbrev nD : Nat := 1
abbrev τ : Topo := Topo.v7x

variable {F : FTy → Type} [FloatOps F]

abbrev main_while0_count : Scf.Loop 32 := ⟨0#32, 4096#32, 1#32⟩
-- ==== Proof.Protocol.lean ====
/-
# The protocol of the expert-weight ring

Four devices stand on a ring. After an entry handshake with both neighbours each device passes, three times, a
block of expert weights and a block of routes on to its next neighbour: hop `0` sends its own two blocks, hop
`h + 1` what hop `h` delivered. Two receive buffers of three slots each hold the arrivals, slot `h` those of hop
`h`. Every semaphore of the handshake and of the hops is a cell of the rounds library with the single round `0`.

This module states the ring, the buffers' slots, the cells and their schedule, what each device owes and the
levels by which it may wait.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.MemrefSat
public import Idealize.ShloMosaic.Lib.ValueLayout
public import Idealize.ShloMosaic.Lib.Tactic

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring -/

/-- The next device round the ring, and the one before. -/
def nxt (c : Dev nD) : Dev nD := ⟨(c.val + 1) % 4, Nat.mod_lt _ (by decide)⟩
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide
def ring : Dev nD ≃ Dev nD := ⟨nxt, prv, prv_nxt, nxt_prv⟩

/-- The device `h` places before `c`: the one whose blocks `c` holds after `h` hops. -/
def back (h : ℕ) (c : Dev nD) : Dev nD := prv^[h] c
theorem back_zero (c : Dev nD) : back 0 c = c := rfl
theorem back_succ_nxt (h : ℕ) (c : Dev nD) : back (h + 1) (nxt c) = back h c := by
  unfold back; rw [Function.iterate_succ_apply, prv_nxt]

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = nxt c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)

/-! ## The slots of the two receive buffers -/

theorem w_inb (h : Fin 3) : ∀ a, (![h.val, 0, 0, 0] : Fin 4 → Nat) a + S1x4x256x512.size a ≤ S3x4x256x512.size a := by
  revert h; decide
theorem r_inb (h : Fin 3) : ∀ a, (![h.val, 0, 0] : Fin 3 → Nat) a + S1x1024x1.size a ≤ S3x1024x1.size a := by
  revert h; decide

abbrev wRect (h : Fin 3) : Rect S3x4x256x512 := Rect.unit (s := S3x4x256x512) ![h.val, 0, 0, 0] S1x4x256x512.size (w_inb h)
abbrev rRect (h : Fin 3) : Rect S3x1024x1 := Rect.unit (s := S3x1024x1) ![h.val, 0, 0] S1x1024x1.size (r_inb h)

/-- Slot `h` of the weights' buffer and of the routes' buffer, as the transfers address them. -/
abbrev wSlot (h : Fin 3) : Memref sig .tc .vmem S4x256x512 .f32 :=
  ((Memref.whole cc0_scratch0).slice (wRect h) (fun _ => rfl)).squeeze S4x256x512 squeezes_S1x4x256x512_S4x256x512
abbrev rSlot (h : Fin 3) : Memref sig .tc .vmem S1024x1 .i32 :=
  ((Memref.whole cc0_scratch1).slice (rRect h) (fun _ => rfl)).squeeze S1024x1 squeezes_S1x1024x1_S1024x1

/-- What hop `h` sends: the staged own blocks first, then the slot the hop before filled. -/
abbrev wSrc : Fin 3 → Memref sig .tc .vmem S4x256x512 .f32
  | 0 => Memref.whole cc0_stg2_0
  | 1 => wSlot 0
  | 2 => wSlot 1
abbrev rSrc : Fin 3 → Memref sig .tc .vmem S1024x1 .i32
  | 0 => Memref.whole cc0_stg1_0
  | 1 => rSlot 0
  | 2 => rSlot 1

/-! ## The semaphores and the cells -/

abbrev barS : Sem sig := (SemArray.scalar (sig.barrier 0 rfl) : Sems sig S_).sem
/-- Per hop: the weights' send and receive semaphore, the routes' send and receive semaphore. -/
abbrev wS (h : Fin 3) : DmaSem sig := ⟨4 + h.val, by have := h.isLt; show 4 + h.val < 16; omega⟩
abbrev wV (h : Fin 3) : DmaSem sig := ⟨7 + h.val, by have := h.isLt; show 7 + h.val < 16; omega⟩
abbrev rS (h : Fin 3) : DmaSem sig := ⟨10 + h.val, by have := h.isLt; show 10 + h.val < 16; omega⟩
abbrev rV (h : Fin 3) : DmaSem sig := ⟨13 + h.val, by have := h.isLt; show 13 + h.val < 16; omega⟩

abbrev barCell (c : Dev nD) : GSem nD τ sig := ((c : Thread nD τ), .reg barS)
abbrev wSCell (h : Fin 3) (c : Dev nD) : GSem nD τ sig := ((c : Thread nD τ), .dma (wS h))
abbrev wVCell (h : Fin 3) (c : Dev nD) : GSem nD τ sig := ((c : Thread nD τ), .dma (wV h))
abbrev rSCell (h : Fin 3) (c : Dev nD) : GSem nD τ sig := ((c : Thread nD τ), .dma (rS h))
abbrev rVCell (h : Fin 3) (c : Dev nD) : GSem nD τ sig := ((c : Thread nD τ), .dma (rV h))

/-- What one transfer of weights, and one of routes, credits. -/
abbrev Nw : ℕ := (Memref.whole cc0_stg2_0 : Memref sig .tc .vmem S4x256x512 .f32).view.dmaCredit
abbrev Nr : ℕ := (Memref.whole cc0_stg1_0 : Memref sig .tc .vmem S1024x1 .i32).view.dmaCredit
theorem Nw_pos : 0 < Nw := View.dmaCredit_pos _ (by decide)
theorem Nr_pos : 0 < Nr := View.dmaCredit_pos _ (by decide)

/-! ## Contents -/

/-- Device `c`'s operands as its pipeline stages them: tokens, routes, expert weights. -/
def xAt (c : Dev nD) : (cc0_stg0_0 : Ref sig .tc).ty.Contents (Elt F) :=
  (win0_0.blk (0 : Fin 1)).view.read (Elt F) (m ((c : Thread nD τ).loc main_arg0))
def rOwn (c : Dev nD) : (cc0_stg1_0 : Ref sig .tc).ty.Contents (Elt F) :=
  (win0_1.blk (0 : Fin 1)).view.read (Elt F) (m ((c : Thread nD τ).loc main_arg2))
def wOwn (c : Dev nD) : (cc0_stg2_0 : Ref sig .tc).ty.Contents (Elt F) :=
  (win0_2.blk (0 : Fin 1)).view.read (Elt F) (m ((c : Thread nD τ).loc main_arg3))

/-- What device `c` holds after `h` hops: the blocks of the device `h` places before it. -/
def wAt (h : ℕ) (c : Dev nD) : S4x256x512.Idx → Elt F .f32 := wOwn m (back h c)
def rAt (h : ℕ) (c : Dev nD) : S1024x1.Idx → Elt F .i32 := rOwn m (back h c)

omit [FloatOps F] in
theorem wAt_nxt (h : ℕ) (c : Dev nD) : wAt m (h + 1) (nxt c) = wAt m h c := by unfold wAt; rw [back_succ_nxt]
omit [FloatOps F] in
theorem rAt_nxt (h : ℕ) (c : Dev nD) : rAt m (h + 1) (nxt c) = rAt m h c := by unfold rAt; rw [back_succ_nxt]

/-! ## The schedule -/

/-- The six slots of device `c`, each at some contents: what `c` lends the device before it. -/
def slots (c : Dev nD) : sProp 𝕄 :=
  bigSep (Finset.univ : Finset (Fin 3)) fun h =>
    iprop((∃ X, owns (c : Thread nD τ) (wSlot h) fullShare X) ∗ (∃ X, owns (c : Thread nD τ) (rSlot h) fullShare X))

/-- The payloads of the transfers' cells. A send returns the lent half of its source; a receive delivers the slot
    with the block of the device `h + 1` places before. -/
def wSPay (h : Fin 3) (c : Dev nD) : sProp 𝕄 := owns (c : Thread nD τ) (wSrc h) fullShare.left (wAt m h.val c)
def wVPay (h : Fin 3) (c : Dev nD) : sProp 𝕄 := owns (c : Thread nD τ) (wSlot h) fullShare (wAt m (h.val + 1) c)
def rSPay (h : Fin 3) (c : Dev nD) : sProp 𝕄 := owns (c : Thread nD τ) (rSrc h) fullShare.left (rAt m h.val c)
def rVPay (h : Fin 3) (c : Dev nD) : sProp 𝕄 := owns (c : Thread nD τ) (rSlot h) fullShare (rAt m (h.val + 1) c)

/-- A transfer cell's payload by its semaphore's number. -/
def dmaPay (c : Dev nD) : ℕ → sProp 𝕄
  | 4 => wSPay m 0 c | 5 => wSPay m 1 c | 6 => wSPay m 2 c
  | 7 => wVPay m 0 c | 8 => wVPay m 1 c | 9 => wVPay m 2 c
  | 10 => rSPay m 0 c | 11 => rSPay m 1 c | 12 => rSPay m 2 c
  | 13 => rVPay m 0 c | 14 => rVPay m 1 c | 15 => rVPay m 2 c
  | _ => iprop(emp)

def pay (c : Dev nD) : SemLoc sig → Bool → sProp 𝕄
  | .reg _, d => if d then slots (nxt c) else iprop(emp)
  | .dma q, _ => dmaPay m c q.val

def amt : SemLoc sig → ℕ
  | .reg _ => 1
  | .dma q => if q.val < 10 then Nw else Nr

def ringRd : Rounds.Schedule (GSem nD τ sig) Bool 𝕄 where
  duties g r := if r = 0 ∧ g.1.2 = .tc then (match g.2 with
    | .reg q => if q = barS then Finset.univ else ∅
    | .dma q => if 4 ≤ q.val then {false} else ∅) else ∅
  unitless _ := False
  amount g _ _ := amt g.2
  payload g _ d := pay m g.1.1 g.2 d
  amount_pos g _ _ _ := by
    rcases h : g.2 with q | q
    · exact Nat.one_pos
    · show 0 < if q.val < 10 then Nw else Nr
      split
      · exact Nw_pos
      · exact Nr_pos

omit [FloatOps F] in
instance slots_storable (c : Dev nD) : BI.Storable (upEmb : UEmb _ 𝕄) (slots (F := F) c) := by unfold slots; infer_instance

instance ringRd_payload_storable (g : GSem nD τ sig) (r : ℕ) (d : Bool) :
    BI.Storable (upEmb : UEmb _ 𝕄) ((ringRd (F := F) m).payload g r d) := by
  show BI.Storable upEmb (pay m g.1.1 g.2 d)
  rcases h : g.2 with q | q
  · show BI.Storable upEmb (if d then slots (nxt g.1.1) else iprop(emp))
    split <;> infer_instance
  · show BI.Storable upEmb (dmaPay m g.1.1 q.val)
    unfold dmaPay wSPay wVPay rSPay rVPay
    split <;> infer_instance

section Sched
variable (c : Dev nD)

/-- The cells of the transfers. -/
abbrev IsX (q : DmaSem sig) : Prop := 4 ≤ q.val

omit [FloatOps F] in
theorem duties_bar : (ringRd (F := F) m).duties (barCell c) 0 = Finset.univ := by
  dsimp only [ringRd]; rw [if_pos ⟨rfl, rfl⟩]; exact if_pos rfl
omit [FloatOps F] in
theorem duties_x (q : DmaSem sig) (hq : IsX q) : (ringRd (F := F) m).duties ((c : Thread nD τ), .dma q) 0 = {false} := by
  dsimp only [ringRd]; rw [if_pos ⟨rfl, rfl⟩]; exact if_pos hq
omit [FloatOps F] in
theorem duties_later (g : GSem nD τ sig) : ∀ r, 1 ≤ r → (ringRd (F := F) m).duties g r = ∅ :=
  fun r hr => by dsimp only [ringRd]; rw [if_neg fun h => by omega]

omit [FloatOps F] in
theorem amount_bar (d : Bool) : (ringRd (F := F) m).amount (barCell c) 0 d = 1 := rfl
omit [FloatOps F] in
theorem amount_x (q : DmaSem sig) (d : Bool) : (ringRd (F := F) m).amount ((c : Thread nD τ), .dma q) 0 d = amt (.dma q) := rfl

omit [FloatOps F] in
theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_x (q : DmaSem sig) (hq : IsX q) : (ringRd (F := F) m).expect ((c : Thread nD τ), .dma q) 0 = amt (.dma q) := by
  unfold Schedule.expect Schedule.amountOf; rw [duties_x m c q hq, Finset.sum_singleton, amount_x]

theorem isX_wS (h : Fin 3) : IsX (wS h) := by show 4 ≤ 4 + h.val; omega
theorem isX_wV (h : Fin 3) : IsX (wV h) := by show 4 ≤ 7 + h.val; omega
theorem isX_rS (h : Fin 3) : IsX (rS h) := by show 4 ≤ 10 + h.val; omega
theorem isX_rV (h : Fin 3) : IsX (rV h) := by show 4 ≤ 13 + h.val; omega
theorem amt_wS (h : Fin 3) : amt (.dma (wS h)) = Nw := if_pos (by show 4 + h.val < 10; omega)
theorem amt_wV (h : Fin 3) : amt (.dma (wV h)) = Nw := if_pos (by show 7 + h.val < 10; omega)
theorem amt_rS (h : Fin 3) : amt (.dma (rS h)) = Nr := if_neg (by show ¬ 10 + h.val < 10; omega)
theorem amt_rV (h : Fin 3) : amt (.dma (rV h)) = Nr := if_neg (by show ¬ 13 + h.val < 10; omega)

omit [FloatOps F] in
theorem payload_wS (h : Fin 3) (d : Bool) : (ringRd (F := F) m).payload (wSCell h c) 0 d = wSPay m h c := by
  fin_cases h <;> rfl
omit [FloatOps F] in
theorem payload_wV (h : Fin 3) (d : Bool) : (ringRd (F := F) m).payload (wVCell h c) 0 d = wVPay m h c := by
  fin_cases h <;> rfl
omit [FloatOps F] in
theorem payload_rS (h : Fin 3) (d : Bool) : (ringRd (F := F) m).payload (rSCell h c) 0 d = rSPay m h c := by
  fin_cases h <;> rfl
omit [FloatOps F] in
theorem payload_rV (h : Fin 3) (d : Bool) : (ringRd (F := F) m).payload (rVCell h c) 0 d = rVPay m h c := by
  fin_cases h <;> rfl
omit [FloatOps F] in
theorem payload_bar (d : Bool) : (ringRd (F := F) m).payload (barCell c) 0 d = if d then slots (nxt c) else iprop(emp) := rfl

omit [FloatOps F] in
theorem rest_bar : bigSep ((ringRd (F := F) m).duties (barCell c) 0 \ ∅) (fun d => (ringRd (F := F) m).payload (barCell c) 0 d)
    = iprop(emp ∗ slots (nxt c)) := by
  rw [Finset.sdiff_empty, duties_bar, bigSep_univ_eq_bigSepL [false, true] (by decide) (by decide), bigSepL_cons_cons, bigSepL_singleton,
    payload_bar, payload_bar]
  rfl
omit [FloatOps F] in
theorem rest_x (q : DmaSem sig) (hq : IsX q) :
    bigSep ((ringRd (F := F) m).duties ((c : Thread nD τ), .dma q) 0 \ ∅) (fun d => (ringRd (F := F) m).payload ((c : Thread nD τ), .dma q) 0 d)
      = (ringRd (F := F) m).payload ((c : Thread nD τ), .dma q) 0 false := by
  rw [Finset.sdiff_empty, duties_x m c q hq, bigSep_singleton]

end Sched

/-! ## What a device owes; the levels -/

/-- What device `c` owes with `k` hops still to send: each hop credits the next device's two receive cells. -/
def owe (c : Dev nD) : ℕ → CellTallies nD τ sig Unit
  | 0 => 0
  | k + 1 => (owe c k + tallyAt (rVCell ⟨2 - k, by omega⟩ (nxt c)) () Nr) + tallyAt (wVCell ⟨2 - k, by omega⟩ (nxt c)) () Nw

theorem owe_hop (c : Dev nD) (h : Fin 3) :
    owe c (3 - h.val) = (owe c (2 - h.val) + tallyAt (rVCell h (nxt c)) () Nr) + tallyAt (wVCell h (nxt c)) () Nw := by
  fin_cases h <;> rfl

/-- At launch a device owes the three hops and a unit to each neighbour's barrier cell. -/
def O₁ (c : Dev nD) : CellTallies nD τ sig Unit := owe c 3 + tallyAt (barCell (nxt c)) () 1
def O₀ (c : Dev nD) : CellTallies nD τ sig Unit := O₁ c + tallyAt (barCell (prv c)) () 1

def L (g : GSem nD τ sig) : Finset Unit := if g.1.2 = .tc then {()} else ∅

/-- A semaphore's level: the barrier above the sends, each hop's receives above the hop before. -/
def slev : SemLoc sig → ℕ
  | .reg _ => 1
  | .dma q => if 13 ≤ q.val then q.val - 11 else if 7 ≤ q.val ∧ q.val < 10 then q.val - 5 else 0
def lv (g : GSem nD τ sig) (_ : Unit) : ℕ := slev g.2

theorem L_of_ne (g : GSem nD τ sig) (h : g.1.2 ≠ .tc) : L g = ∅ := if_neg h
theorem L_tc (c : Dev nD) (sm : SemLoc sig) : L ((c : Thread nD τ), sm) = {()} := if_pos rfl
theorem slev_wV (h : Fin 3) : slev (.dma (wV h)) = 2 + h.val := by fin_cases h <;> rfl
theorem slev_rV (h : Fin 3) : slev (.dma (rV h)) = 2 + h.val := by fin_cases h <;> rfl
theorem slev_wS (h : Fin 3) : slev (.dma (wS h)) = 0 := by fin_cases h <;> rfl
theorem slev_rS (h : Fin 3) : slev (.dma (rS h)) = 0 := by fin_cases h <;> rfl

/-- A cell owed a hop is a receive cell of the next device, of a hop still to come. -/
theorem owe_pos {c : Dev nD} (k : ℕ) (hk : k ≤ 3) {g : GSem nD τ sig} {u : Unit} (hp : 0 < owe c k g u) :
    ∃ h : Fin 3, 3 ≤ h.val + k ∧ (g = wVCell h (nxt c) ∨ g = rVCell h (nxt c)) := by
  induction k with
  | zero => exact absurd hp (by show ¬ 0 < (0 : CellTallies nD τ sig Unit) g u; simp)
  | succ k ih =>
    have hh : 2 - k < 3 := by omega
    have e := owe_hop c ⟨2 - k, hh⟩
    have e1 : 3 - (2 - k) = k + 1 := by omega
    have e2 : 2 - (2 - k) = k := by omega
    dsimp only at e
    rw [e1, e2] at e
    rw [e, Pi.add_apply, Finsupp.add_apply, Pi.add_apply, Finsupp.add_apply, tallyAt_apply, tallyAt_apply] at hp
    by_cases hw : g = wVCell ⟨2 - k, hh⟩ (nxt c)
    · exact ⟨_, by show 3 ≤ (2 - k) + (k + 1); omega, .inl hw⟩
    · by_cases hr : g = rVCell ⟨2 - k, hh⟩ (nxt c)
      · exact ⟨_, by show 3 ≤ (2 - k) + (k + 1); omega, .inr hr⟩
      · rw [if_neg (fun h' => hr h'.1), if_neg (fun h' => hw h'.1)] at hp
        obtain ⟨h, h1, h2⟩ := ih (by omega) (by simpa using hp)
        exact ⟨h, by omega, h2⟩

theorem O₀_pos {c : Dev nD} {g : GSem nD τ sig} {u : Unit} (hp : 0 < O₀ c g u) :
    (∃ h : Fin 3, g = wVCell h (nxt c) ∨ g = rVCell h (nxt c)) ∨ g = barCell (nxt c) ∨ g = barCell (prv c) := by
  unfold O₀ O₁ at hp
  rw [Pi.add_apply, Finsupp.add_apply, Pi.add_apply, Finsupp.add_apply, tallyAt_apply, tallyAt_apply] at hp
  by_contra hn; rw [not_or] at hn
  obtain ⟨h1, h2⟩ := hn; rw [not_or] at h2
  rw [if_neg (fun h' => h2.1 h'.1), if_neg (fun h' => h2.2 h'.1)] at hp
  simp only [Nat.add_zero] at hp
  obtain ⟨h, -, h3⟩ := owe_pos 3 (le_refl _) hp
  exact h1 ⟨h, h3⟩

omit [FloatOps F] in
/-- A device may wait on a cell below every hop it still owes. -/
theorem mayWait_hop (c : Dev nD) (s : SemLoc sig) (k : ℕ) (hk : k ≤ 3) (hs : slev s + k ≤ 4) :
    (levAts L lv : sProp 𝕄) ⊢ MayWait (c : Thread nD τ) s () (owe c k) := by
  refine MayOwe.of_cut (L := L) (lev := lv) (slev s) (fun p hp => by rw [Finset.mem_singleton.mp hp, L_tc]; exact Finset.mem_singleton_self _)
    (fun g u hg => by obtain ⟨h, -, rfl | rfl⟩ := owe_pos k hk hg <;> exact Finset.mem_singleton_self _)
    (fun p hp => by rw [Finset.mem_singleton.mp hp]; exact le_refl _)
    (fun g u hg => by
      obtain ⟨h, h1, rfl | rfl⟩ := owe_pos k hk hg <;> dsimp only [lv]
      · rw [slev_wV]; omega
      · rw [slev_rV]; omega)

omit [FloatOps F] in
/-- The pipeline's own waits, on the staging semaphores, are below everything owed at launch. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  have h0 : slev (.dma q) = 0 := by
    show (if 13 ≤ q.val then q.val - 11 else if 7 ≤ q.val ∧ q.val < 10 then q.val - 5 else 0) = 0
    rw [if_neg (by omega), if_neg (by omega)]
  rcases hO with rfl | rfl
  · refine MayOwe.of_cut (L := L) (lev := lv) 0 (fun p hp => by rw [Finset.mem_singleton.mp hp, L_tc]; exact Finset.mem_singleton_self _)
      (fun g u hg => by rcases O₀_pos hg with ⟨h, rfl | rfl⟩ | rfl | rfl <;> exact Finset.mem_singleton_self _)
      (fun p hp => by rw [Finset.mem_singleton.mp hp]; exact le_of_eq h0)
      (fun g u hg => by
        rcases O₀_pos hg with ⟨h, rfl | rfl⟩ | rfl | rfl <;> dsimp only [lv]
        · rw [slev_wV]; omega
        · rw [slev_rV]; omega
        · exact Nat.one_pos
        · exact Nat.one_pos)
  · rw [MayWait_zero]; iintro -; iempintro

end Cert.RingProof
-- ==== Proof.Lanes.lean ====
/-
# One transfer, one wait, one load

The rules of `Lib/Rounds.lean` at this protocol, each stated once: a transfer to the next device, a wait on a
transfer's cell with the cell's closing, a load out of a slot, and a receive buffer as its three slots.
-/
module

public import proofs.«01_k».proof.Proof.Protocol

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells' invariants -/

/-- The thirteen own semaphores of a device: the barrier, then the transfers'. -/
abbrev osem : Fin 13 → SemLoc sig
  | ⟨0, _⟩ => .reg barS
  | ⟨i + 1, h⟩ => .dma ⟨4 + i, by show 4 + i < 16; omega⟩
abbrev kcell (ck : Dev nD × Fin 13) : GSem nD τ sig := ((ck.1 : Thread nD τ), osem ck.2)

/-- Every cell's invariant, under the names `K`, and that its round `0` is reached. -/
def invs (K : Dev nD × Fin 13 → ℕ) : sProp 𝕄 :=
  bigSep (Finset.univ : Finset (Dev nD × Fin 13)) fun ck =>
    iprop(cellInv ER (ringRd m) (K ck) (kcell ck) ∗ reached ER (kcell ck) 0)

instance invs_persistent (K : Dev nD × Fin 13 → ℕ) : BI.Persistent (invs m K) := by unfold invs; infer_instance

/-- A cell of device `c` under its invariant's name. -/
def cellOk (c : Dev nD) (s : SemLoc sig) : sProp 𝕄 :=
  iprop(∃ κ, cellInv ER (ringRd m) κ ((c : Thread nD τ), s) ∗ reached ER ((c : Thread nD τ), s) 0)

instance cellOk_persistent (c : Dev nD) (s : SemLoc sig) : BI.Persistent (cellOk m c s) := by unfold cellOk; infer_instance

omit [FloatOps F] in
theorem cell_at (K : Dev nD × Fin 13 → ℕ) (c : Dev nD) (i : Fin 13) : invs m K ⊢ cellOk m c (osem i) := by
  unfold invs cellOk
  iintro H
  iexists (K (c, i))
  ihave H' := (show (bigSep (Finset.univ : Finset (Dev nD × Fin 13)) (fun ck => iprop(cellInv ER (ringRd m) (K ck) (kcell ck) ∗ reached ER (kcell ck) 0)) : sProp 𝕄)
    ⊢ iprop(cellInv ER (ringRd m) (K (c, i)) (kcell (c, i)) ∗ reached ER (kcell (c, i)) 0) from bigSep_elim (Finset.mem_univ (c, i))) $$ H
  iexact H'

omit [FloatOps F] in
theorem cell_bar (K : Dev nD × Fin 13 → ℕ) (c : Dev nD) : invs m K ⊢ cellOk m c (.reg barS) := cell_at m K c 0

omit [FloatOps F] in
theorem cell_x (K : Dev nD × Fin 13 → ℕ) (c : Dev nD) (q : DmaSem sig) (hq : IsX q) : invs m K ⊢ cellOk m c (.dma q) := by
  obtain ⟨v, hv⟩ := q
  have hq' : 4 ≤ v := hq
  have hv' : v < 16 := hv
  have e : osem ⟨(v - 4) + 1, by omega⟩ = .dma ⟨v, hv⟩ := by
    show SemLoc.dma _ = SemLoc.dma _
    congr 1; exact Fin.ext (by show 4 + (v - 4) = v; omega)
  rw [← e]; exact cell_at m K c _

/-! ## A transfer to the next device -/

section Xfer
variable (K : Dev nD × Fin 13 → ℕ) (c : Dev nD)

/-- A transfer of the left half of `src`, holding `X`, into `dst` of the next device: the half goes to the send
    cell, the rewritten destination to the receive cell. -/
theorem wp_xfer {s : Shape} {e : EltTy} (src dst : Memref sig .tc .vmem s e) (qS qV : DmaSem sig) (hS : IsX qS) (hV : IsX qV)
    (N : ℕ) (hN : dst.view.dmaCredit = N) (hNS : amt (.dma qS) = N) (hNV : amt (.dma qV) = N) (X : s.Idx → Elt F e)
    (hpS : (ringRd m).payload ((c : Thread nD τ), .dma qS) 0 false = owns (c : Thread nD τ) src fullShare.left X)
    (hpV : (ringRd m).payload ((nxt c : Thread nD τ), .dma qV) 0 false = owns (nxt c : Thread nD τ) dst fullShare X)
    (O : CellTallies nD τ sig Unit) (W : Waits sig Unit)
    {hsc : (dst : Memref sig (Dev.tc (nxt c) : Thread nD τ).2.kind .vmem s e).view.ref.isScScratch = false}
    {hsrc : src.view.WordExact} {hdst : dst.view.WordExact}
    {hsem : DmaTarget.Typed .vmem (.dma qV) (.remote (Dev.tc (nxt c) : Thread nD τ) dst (.dma qS) hsc)}
    {α : Type} {Q : α → sProp 𝕄} {k : PUnit → Prog (TpuEff nD τ sig (Elt F) Λ₀ .tc) α} :
    iprop(invs m K ∗ owns (c : Thread nD τ) src fullShare.left X ∗ (∃ Y, owns (nxt c : Thread nD τ) dst fullShare Y)
        ∗ owes (c : Thread nD τ) (O + tallyAt ((nxt c : Thread nD τ), SemLoc.dma qV) () N) W
        ∗ dutyTok ER ((c : Thread nD τ), .dma qS) 0 false ∗ dutyTok ER ((nxt c : Thread nD τ), .dma qV) 0 false)
      ⊢ iprop(((cred (tallyAt ((c : Thread nD τ), SemLoc.dma qS) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc (nxt c) : Thread nD τ) dst (.dma qS) hsc) (.dma qV) hsrc hdst hsem) k) Q) := by
  iintro ⟨#HI, Hs, ⟨%Y, Hd⟩, HO, HtS, HtV⟩ Hk
  ihave #HS := (cell_x m K c qS hS) $$ HI
  ihave #HV := (cell_x m K (nxt c) qV hV) $$ HI
  unfold cellOk
  icases HS with ⟨%κ₁, #HIS, #HrS⟩
  icases HV with ⟨%κ₂, #HIV, #HrV⟩
  ihave Hs' := (show owns (c : Thread nD τ) src fullShare.left X ⊢ iprop(∃ f, ⌜src.view.read (Elt F) f = X⌝ ∗ (src.view.loc (c : Thread nD τ) ↦[src.view.set]{fullShare.left} f)) from .rfl) $$ Hs
  ihave Hd' := (show owns (nxt c : Thread nD τ) dst fullShare Y ⊢ iprop(∃ f, ⌜dst.view.read (Elt F) f = Y⌝ ∗ (dst.view.loc (nxt c : Thread nD τ) ↦[dst.view.set]{fullShare} f)) from .rfl) $$ Hd
  icases Hs' with ⟨%fs, %hfs, Hs⟩
  icases Hd' with ⟨%fd, %hfd, Hd⟩
  iapply (Rounds.wp_send_pointsTo 𝒱₀ ER (ringRd m) (c : Thread nD τ) none (κ₁ := κ₁) (κ₂ := κ₂)
    (r₁ := 0) (r₂ := 0) (d₁ := false) (d₂ := false) (fs := fs) (fd := fd)
    (by rw [duties_x m c qS hS]; exact Finset.mem_singleton_self _) (by rw [duties_x m (nxt c) qV hV]; exact Finset.mem_singleton_self _)
    () () N (show dst.view.amount (.dma qV) = N from hN) ((amount_x m c qS false).trans hNS) ((amount_x m (nxt c) qV false).trans hNV) O rfl (W := W)
    (by rw [hpS, ← hfs]; exact owns_intro _ _ _ _)
    (by
      rw [hpV]
      refine (owns_intro (nxt c : Thread nD τ) dst fullShare _).trans (Entails.of_eq ?_)
      rw [View.read_write_univ, hfs])) $$ [Hs Hd HO HtS HtV]
  · isplitr; · iexact HIS
    isplitr; · iexact HIV
    isplitl [Hs]; · iexact Hs
    isplitl [Hd]; · iexact Hd
    isplitl [HO]; · iexact HO
    isplitl [HtS]; · iexact HtS
    isplitr; · iexact HrS
    isplitl [HtV]; · iexact HtV
    iexact HrV
  iexact Hk

/-- A wait on a transfer's cell, which the device may make owing `O`: the cell is closed and its payload returned. -/
theorem wp_arrive (q : DmaSem sig) (hq : IsX q) (N : ℕ) (hN : amt (.dma q) = N) (k' : ℕ) (hk : k' ≤ 3) (hl : slev (.dma q) + k' ≤ 4)
    (W : Waits sig Unit) {s : Shape} {e : EltTy}
    {src dst : Memref sig .tc .vmem s e} {hsrc : src.view.WordExact} {hdst : dst.view.WordExact} (hd : dst.view.dmaCredit = N)
    {α : Type} {Q : α → sProp 𝕄} {k : PUnit → Prog (TpuEff nD τ sig (Elt F) Λ₀ .tc) α} :
    iprop(invs m K ∗ levAts L lv ∗ cred (tallyAt ((c : Thread nD τ), SemLoc.dma q) () N) ∗ owes (c : Thread nD τ) (owe c k') W
        ∗ atPos ER ((c : Thread nD τ), .dma q) 0 ∅ 0)
      ⊢ iprop(((owes (c : Thread nD τ) (owe c k') (insert (SemLoc.dma q, ()) W) ∗ semVal ((c : Thread nD τ), .dma q) 0
            ∗ (ringRd m).payload ((c : Thread nD τ), .dma q) 0 false)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hd
  iintro ⟨#HI, #Hlev, Hc, HO, Hat⟩ Hk
  ihave #HC := (cell_x m K c q hq) $$ HI
  unfold cellOk
  icases HC with ⟨%κ, #HIq, -⟩
  iapply (Rounds.wp_wait_rest_token 𝒱₀ ER (ringRd m) (c : Thread nD τ) none (κ := κ)
      (wpE_waitDma2_eq 𝒱₀ (c : Thread nD τ) none Set.univ) (Set.mem_univ _) () (O := owe c k') (W := W) (R := 0) (m := 0) (T := ∅)
      (by rw [Nat.zero_add, expect_x m c q hq, hN])) $$ [Hc HO Hat]
  · isplitr; · iexact HIq
    isplitl [Hc]; · iexact Hc
    isplitl [HO]; · iexact HO
    isplitr; · iapply (mayWait_hop c (.dma q) k' hk hl); iexact Hlev
    iexact Hat
  iintro ⟨HO, Hat, -, Hpay⟩
  imod (Rounds.cell_close ER (ringRd m) (Set.mem_univ κ) (fun h => h) (R := 0 + 1) (duties_later m ((c : Thread nD τ), .dma q))) $$ [Hat] with Hz
  · isplitr; · iexact HIq
    iexact Hat
  iapply Hk
  isplitl [HO]; · iexact HO
  isplitl [Hz]; · iexact Hz
  iapply (Entails.of_eq (rest_x m c q hq)); iexact Hpay

end Xfer

/-! ## The slots of a receive buffer -/

/-- A separating conjunction over the three hops, written out. -/
theorem bigSep_three {T : Type} [URA T] (Φ : Fin 3 → sProp T) : bigSep Finset.univ Φ = iprop(Φ 0 ∗ Φ 1 ∗ Φ 2) :=
  bigSep_univ_eq_bigSepL [(0 : Fin 3), 1, 2] (by decide) (by decide) Φ

section Slot
variable {s s' : Shape} {e : EltTy} (M : Memref sig .tc .vmem s e) (R : Fin 3 → Rect s) (hR : ∀ h a, (R h).stride a = 1)
  (hq : ∀ h, (R h).shape.Squeezes s')

/-- Slot `h` of the buffer `M`. -/
abbrev slotOf (h : Fin 3) : Memref sig .tc .vmem s' e := (M.slice (R h) (hR h)).squeeze s' (hq h)

omit [FloatOps F] in
/-- A load of the buffer within slot `h` reads the slot's contents at the index `g` names. -/
theorem wp_load_slot (c : Dev nD) (h : Fin 3) (q : PosShare TreeShare) (X : s'.Idx → Elt F e) (r : LoadRect s)
    (g : r.shape.Idx → s'.Idx) (hg : ∀ y, r.idx y = (R h).emb (Shape.reshapeEquiv (hq h).numel_eq (g y)))
    {hl : M.view.LoadsAt r} {α : Type} {Q : α → sProp 𝕄} {k : (r.shape.Idx → Elt F e) → Prog (TpuEff nD τ sig (Elt F) Λ₀ .tc) α}
    (D : Defs nD τ sig (Elt F) Λ₀) :
    owns (c : Thread nD τ) (slotOf M R hR hq h) q X
      ⊢ iprop((owns (c : Thread nD τ) (slotOf M R hR hq h) q X
            -∗ wp frame (wpE D 𝒱₀ (c : Thread nD τ) none) Set.univ (k fun y => X (g y)) Q)
          -∗ wp frame (wpE D 𝒱₀ (c : Thread nD τ) none) Set.univ (.op (.load M r hl) k) Q) := by
  have hsub : M.view.setOn r.set ⊆ (slotOf M R hR hq h).view.set := by
    intro i hi
    obtain ⟨z, hz, rfl⟩ := Finset.mem_map.mp hi
    obtain ⟨y, rfl⟩ := r.exists_idx_of_mem hz
    rw [hg y]
    exact (slotOf M R hR hq h).view.emb_mem_set (g y)
  have hval : ∀ f : M.view.ty.Contents (Elt F), (slotOf M R hR hq h).view.read (Elt F) f = X →
      M.view.readAt (Elt F) r f = fun y => X (g y) := by
    intro f hf
    funext y
    rw [View.readAt_apply, hg y, ← hf]
    rfl
  unfold owns
  iintro ⟨%f, %hf, H⟩ Hk
  iapply (wp_load 𝒱₀ (c : Thread nD τ) none Set.univ (m := M) (r := r) hsub) $$ H
  iintro H
  rw [hval f hf]
  iapply Hk
  iexists f
  isplitr; · ipureintro; exact hf
  iexact H

omit [FloatOps F] in
/-- A slot owned as a slice is owned squeezed. -/
theorem owns_slot_intro (c : Dev nD) (h : Fin 3) (q : PosShare TreeShare) (Y : (R h).shape.Idx → Elt F e) :
    owns (c : Thread nD τ) (M.slice (R h) (hR h)) q Y ⊢ (iprop(∃ X, owns (c : Thread nD τ) (slotOf M R hR hq h) q X) : sProp 𝕄) := by
  unfold owns
  iintro ⟨%f, -, H⟩
  iexists ((slotOf M R hR hq h).view.read (Elt F) f)
  iexists f
  isplitr; · ipureintro; rfl
  have e : (slotOf M R hR hq h).view.set = (M.slice (R h) (hR h)).view.set := View.set_reshape _ _
  rw [e]; iexact H

variable (hd : ∀ h h', h ≠ h' → Disjoint (R h).set (R h').set) (hcov : (Finset.univ : Finset (Fin 3)).biUnion (fun h => (R h).set) = Finset.univ)

omit [FloatOps F] in
include hd hcov in
/-- A whole buffer at some contents is its three slots, each at some contents, -/
theorem slots_split (c : Dev nD) :
    (iprop(∃ f, M.view.loc (c : Thread nD τ) ↦[M.view.set]{fullShare} f) : sProp 𝕄)
      ⊢ bigSep (Finset.univ : Finset (Fin 3)) fun h => iprop(∃ X, owns (c : Thread nD τ) (slotOf M R hR hq h) fullShare X) := by
  iintro ⟨%f, H⟩
  iapply (show (M.view.loc (c : Thread nD τ) ↦[M.view.set]{fullShare} f : sProp 𝕄)
      ⊢ bigSep (Finset.univ : Finset (Fin 3)) fun h => iprop(∃ X, owns (c : Thread nD τ) (slotOf M R hR hq h) fullShare X) from
    (Entails.of_eq (pointsTo_rects (c : Thread nD τ) M fullShare R hR hd hcov f)).trans
      (bigSep_mono fun h _ => owns_slot_intro M R hR hq c h fullShare _))
  iexact H

omit [FloatOps F] in
include hd hcov in
/-- and back. -/
theorem slots_join (c : Dev nD) :
    (bigSep (Finset.univ : Finset (Fin 3)) fun h => iprop(∃ X, owns (c : Thread nD τ) (slotOf M R hR hq h) fullShare X))
      ⊢ (iprop(∃ f, M.view.loc (c : Thread nD τ) ↦[M.view.set]{fullShare} f) : sProp 𝕄) := by
  have hset : ∀ h, (slotOf M R hR hq h).view.set = (R h).set.map M.view.emb := fun h =>
    (View.set_reshape _ _).trans (View.set_slice _ _)
  have hdd : ∀ h h', h ≠ h' → Disjoint (slotOf M R hR hq h).view.set (slotOf M R hR hq h').view.set := fun h h' hh => by
    rw [hset, hset]; exact (Finset.disjoint_map _).mpr (hd h h' hh)
  have hall : ((slotOf M R hR hq 0).view.set ∪ (slotOf M R hR hq 1).view.set) ∪ (slotOf M R hR hq 2).view.set = M.view.set := by
    rw [hset, hset, hset, ← Finset.map_union, ← Finset.map_union]
    unfold View.set
    congr 1
    rw [← hcov]
    ext i; simp only [Finset.mem_union, Finset.mem_biUnion, Finset.mem_univ, true_and]
    constructor
    · rintro ((hi | hi) | hi)
      · exact ⟨0, hi⟩
      · exact ⟨1, hi⟩
      · exact ⟨2, hi⟩
    · rintro ⟨h, hi⟩
      match h with
      | 0 => exact .inl (.inl hi)
      | 1 => exact .inl (.inr hi)
      | 2 => exact .inr hi
  rw [bigSep_three]
  unfold owns
  iintro ⟨⟨%X0, %f0, -, H0⟩, ⟨%X1, %f1, -, H1⟩, ⟨%X2, %f2, -, H2⟩⟩
  ihave H01 := (pointsTo_join (ℓ := M.view.loc (c : Thread nD τ)) (hdd 0 1 (by decide))) $$ [H0 H1]
  · isplitl [H0]; · iexact H0
    iexact H1
  ihave H012 := (pointsTo_join (ℓ := M.view.loc (c : Thread nD τ)) (Finset.disjoint_union_left.mpr ⟨hdd 0 2 (by decide), hdd 1 2 (by decide)⟩)) $$ [H01 H2]
  · isplitl [H01]; · iexact H01
    iexact H2
  rw [hall]
  iexists _; iexact H012

end Slot

end Cert.RingProof
-- ==== Proof.Hops.lean ====
/-
# The hops and the kernel's value

One hop's two transfers and one hop's four waits, each as one rule; the loads of an expert's weights and of a
block of routes out of their slots; the value the kernel stores, as a function of the blocks it reads.
-/
module

public import proofs.«01_k».proof.Proof.Lanes

@[expose] public section

set_option maxRecDepth 16384

noncomputable section

namespace Cert.RingProof

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots as slots of their buffers -/

theorem w_disj : ∀ h h', h ≠ h' → Disjoint (wRect h).set (wRect h').set := by
  intro h h' hh
  refine Finset.disjoint_left.mpr fun i hi hi' => hh ?_
  obtain ⟨y, rfl⟩ := (wRect h).exists_idx_of_mem hi
  obtain ⟨y', e⟩ := (wRect h').exists_idx_of_mem hi'
  have e0 := congrArg (fun i : S3x4x256x512.Idx => (i 0).val) e
  have hy : (y 0).val < 1 := (y 0).isLt
  have hy' : (y' 0).val < 1 := (y' 0).isLt
  have e1 : h'.val + 1 * (y' 0).val = h.val + 1 * (y 0).val := e0
  exact Fin.ext (by omega)
theorem w_cov : (Finset.univ : Finset (Fin 3)).biUnion (fun h => (wRect h).set) = Finset.univ := by
  ext i
  simp only [Finset.mem_biUnion, Finset.mem_univ, true_and, iff_true]
  refine ⟨i 0, (wRect (i 0)).mem_set.mpr fun a => ?_⟩
  match a with
  | ⟨0, _⟩ => exact ⟨0, Nat.one_pos, by show (i 0).val = (i 0).val + 1 * 0; omega⟩
  | ⟨1, _⟩ => exact ⟨(i 1).val, (i 1).isLt, by show (i 1).val = 0 + 1 * (i 1).val; omega⟩
  | ⟨2, _⟩ => exact ⟨(i 2).val, (i 2).isLt, by show (i 2).val = 0 + 1 * (i 2).val; omega⟩
  | ⟨3, _⟩ => exact ⟨(i 3).val, (i 3).isLt, by show (i 3).val = 0 + 1 * (i 3).val; omega⟩
theorem r_disj : ∀ h h', h ≠ h' → Disjoint (rRect h).set (rRect h').set := by
  intro h h' hh
  refine Finset.disjoint_left.mpr fun i hi hi' => hh ?_
  obtain ⟨y, rfl⟩ := (rRect h).exists_idx_of_mem hi
  obtain ⟨y', e⟩ := (rRect h').exists_idx_of_mem hi'
  have e0 := congrArg (fun i : S3x1024x1.Idx => (i 0).val) e
  have hy : (y 0).val < 1 := (y 0).isLt
  have hy' : (y' 0).val < 1 := (y' 0).isLt
  have e1 : h'.val + 1 * (y' 0).val = h.val + 1 * (y 0).val := e0
  exact Fin.ext (by omega)
theorem r_cov : (Finset.univ : Finset (Fin 3)).biUnion (fun h => (rRect h).set) = Finset.univ := by
  ext i
  simp only [Finset.mem_biUnion, Finset.mem_univ, true_and, iff_true]
  refine ⟨i 0, (rRect (i 0)).mem_set.mpr fun a => ?_⟩
  match a with
  | ⟨0, _⟩ => exact ⟨0, Nat.one_pos, by show (i 0).val = (i 0).val + 1 * 0; omega⟩
  | ⟨1, _⟩ => exact ⟨(i 1).val, (i 1).isLt, by show (i 1).val = 0 + 1 * (i 1).val; omega⟩
  | ⟨2, _⟩ => exact ⟨(i 2).val, (i 2).isLt, by show (i 2).val = 0 + 1 * (i 2).val; omega⟩

omit [FloatOps F] in
/-- The two receive buffers, whole at some contents, are the six slots, -/
theorem slots_of_bufs (c : Dev nD) :
    (iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) : sProp 𝕄) ⊢ slots c := by
  unfold slots
  rw [bigSep_sep']
  refine BIClass.sep_mono ?_ ?_
  · have e := slots_split (F := F) (Memref.whole cc0_scratch0) wRect (fun _ _ => rfl) (fun _ => squeezes_S1x4x256x512_S4x256x512) w_disj w_cov c
    rw [Memref.view_whole, View.set_whole] at e; exact e
  · have e := slots_split (F := F) (Memref.whole cc0_scratch1) rRect (fun _ _ => rfl) (fun _ => squeezes_S1x1024x1_S1024x1) r_disj r_cov c
    rw [Memref.view_whole, View.set_whole] at e; exact e

omit [FloatOps F] in
/-- and back. -/
theorem bufs_of_slots (c : Dev nD) :
    slots c ⊢ (iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) : sProp 𝕄) := by
  unfold slots
  rw [bigSep_sep']
  refine BIClass.sep_mono ?_ ?_
  · have e := slots_join (F := F) (Memref.whole cc0_scratch0) wRect (fun _ _ => rfl) (fun _ => squeezes_S1x4x256x512_S4x256x512) w_disj w_cov c
    rw [Memref.view_whole, View.set_whole] at e; exact e
  · have e := slots_join (F := F) (Memref.whole cc0_scratch1) rRect (fun _ _ => rfl) (fun _ => squeezes_S1x1024x1_S1024x1) r_disj r_cov c
    rw [Memref.view_whole, View.set_whole] at e; exact e

/-! ## A hop -/

section Hop
variable (K : Dev nD × Fin 13 → ℕ) (h : Fin 3) (c : Dev nD)

/-- The tokens with which `c` pays hop `h`. -/
def hopTok : sProp 𝕄 :=
  iprop(dutyTok ER (wSCell h c) 0 false ∗ dutyTok ER (wVCell h (nxt c)) 0 false
    ∗ dutyTok ER (rSCell h c) 0 false ∗ dutyTok ER (rVCell h (nxt c)) 0 false)
/-- What `c` waits for hop `h` with: its positions in its own four cells and the credit of the two receives. -/
def hopPos : sProp 𝕄 :=
  iprop(atPos ER (wSCell h c) 0 ∅ 0 ∗ atPos ER (wVCell h c) 0 ∅ 0 ∗ atPos ER (rSCell h c) 0 ∅ 0 ∗ atPos ER (rVCell h c) 0 ∅ 0
    ∗ cred (tallyAt (wVCell h c) () Nw) ∗ cred (tallyAt (rVCell h c) () Nr))
/-- Hop `h`'s four counters at zero. -/
def hopZero : sProp 𝕄 :=
  iprop(semVal (wSCell h c) 0 ∗ semVal (wVCell h c) 0 ∗ semVal (rSCell h c) 0 ∗ semVal (rVCell h c) 0)

/-- The two transfers of hop `h`. -/
theorem wp_hop_send (n n' : Dev nD) (hn : n = nxt c) (hn' : n' = nxt c) (W : Waits sig Unit)
    {hsc : (wSlot h : Memref sig (Dev.tc n : Thread nD τ).2.kind .vmem S4x256x512 .f32).view.ref.isScScratch = false}
    {hsrc : (wSrc h).view.WordExact} {hdst : (wSlot h).view.WordExact}
    {hsem : DmaTarget.Typed .vmem (.dma (wV h)) (.remote (Dev.tc n : Thread nD τ) (wSlot h) (.dma (wS h)) hsc)}
    {hsc' : (rSlot h : Memref sig (Dev.tc n' : Thread nD τ).2.kind .vmem S1024x1 .i32).view.ref.isScScratch = false}
    {hsrc' : (rSrc h).view.WordExact} {hdst' : (rSlot h).view.WordExact}
    {hsem' : DmaTarget.Typed .vmem (.dma (rV h)) (.remote (Dev.tc n' : Thread nD τ) (rSlot h) (.dma (rS h)) hsc')}
    {α : Type} {Q : α → sProp 𝕄} {k : PUnit → Prog (TpuEff nD τ sig (Elt F) Λ₀ .tc) α} :
    iprop(invs m K ∗ wSPay m h c ∗ rSPay m h c
        ∗ ((∃ X, owns (nxt c : Thread nD τ) (wSlot h) fullShare X) ∗ (∃ X, owns (nxt c : Thread nD τ) (rSlot h) fullShare X))
        ∗ owes (c : Thread nD τ) (owe c (3 - h.val)) W ∗ hopTok h c)
      ⊢ iprop(((cred (tallyAt (wSCell h c) () Nw) ∗ cred (tallyAt (rSCell h c) () Nr) ∗ owes (c : Thread nD τ) (owe c (2 - h.val)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (wSrc h) (.remote (Dev.tc n : Thread nD τ) (wSlot h) (.dma (wS h)) hsc) (.dma (wV h)) hsrc hdst hsem) fun _ =>
                .op (.enqueueDma (rSrc h) (.remote (Dev.tc n' : Thread nD τ) (rSlot h) (.dma (rS h)) hsc') (.dma (rV h)) hsrc' hdst' hsem') k) Q) := by
  subst hn hn'
  unfold wSPay rSPay hopTok
  rw [owe_hop]
  iintro ⟨#HI, Hws, Hrs, ⟨Hwd, Hrd⟩, HO, HtwS, HtwV, HtrS, HtrV⟩ Hk
  iapply (wp_xfer m K c (wSrc h) (wSlot h) (wS h) (wV h) (isX_wS h) (isX_wV h) Nw rfl (amt_wS h) (amt_wV h) (wAt m h.val c)
    ((payload_wS m c h false).trans rfl) ((payload_wV m (nxt c) h false).trans (by unfold wVPay; rw [wAt_nxt]))
    (owe c (2 - h.val) + tallyAt (rVCell h (nxt c)) () Nr) W) $$ [Hws Hwd HO HtwS HtwV]
  · isplitr; · iexact HI
    isplitl [Hws]; · iexact Hws
    isplitl [Hwd]; · iexact Hwd
    isplitl [HO]; · iexact HO
    isplitl [HtwS]; · iexact HtwS
    iexact HtwV
  iintro ⟨HcwS, HO⟩
  iapply (wp_xfer m K c (rSrc h) (rSlot h) (rS h) (rV h) (isX_rS h) (isX_rV h) Nr rfl (amt_rS h) (amt_rV h) (rAt m h.val c)
    ((payload_rS m c h false).trans rfl) ((payload_rV m (nxt c) h false).trans (by unfold rVPay; rw [rAt_nxt]))
    (owe c (2 - h.val)) W) $$ [Hrs Hrd HO HtrS HtrV]
  · isplitr; · iexact HI
    isplitl [Hrs]; · iexact Hrs
    isplitl [Hrd]; · iexact Hrd
    isplitl [HO]; · iexact HO
    isplitl [HtrS]; · iexact HtrS
    iexact HtrV
  iintro ⟨HcrS, HO⟩
  iapply Hk
  isplitl [HcwS]; · iexact HcwS
  isplitl [HcrS]; · iexact HcrS
  iexact HO

/-- The semaphore units of each memref a wait of hop `h` names. -/
theorem credit_wSrc (h : Fin 3) : (wSrc h).view.dmaCredit = Nw :=
  match h with
  | ⟨0, _⟩ => rfl
  | ⟨1, _⟩ => rfl
  | ⟨2, _⟩ => rfl
theorem credit_rSrc (h : Fin 3) : (rSrc h).view.dmaCredit = Nr :=
  match h with
  | ⟨0, _⟩ => rfl
  | ⟨1, _⟩ => rfl
  | ⟨2, _⟩ => rfl
theorem credit_wSlot (h : Fin 3) : (wSlot h).view.dmaCredit = Nw := rfl
theorem credit_rSlot (h : Fin 3) : (rSlot h).view.dmaCredit = Nr := rfl

/-- The four waits of hop `h`: the lent halves are back, the two blocks have landed, the four cells are closed. -/
theorem wp_hop_wait (W : Waits sig Unit)
    {hs1 : (wSlot h).view.WordExact} {hd1 : (wSrc h).view.WordExact} {hs2 : (wSrc h).view.WordExact} {hd2 : (wSlot h).view.WordExact}
    {hs3 : (rSlot h).view.WordExact} {hd3 : (rSrc h).view.WordExact} {hs4 : (rSrc h).view.WordExact} {hd4 : (rSlot h).view.WordExact}
    {α : Type} {Q : α → sProp 𝕄} {k : PUnit → Prog (TpuEff nD τ sig (Elt F) Λ₀ .tc) α} :
    iprop(invs m K ∗ levAts L lv ∗ hopPos h c
        ∗ cred (tallyAt (wSCell h c) () Nw) ∗ cred (tallyAt (rSCell h c) () Nr) ∗ owes (c : Thread nD τ) (owe c (2 - h.val)) W)
      ⊢ iprop((((∃ W', owes (c : Thread nD τ) (owe c (2 - h.val)) W') ∗ hopZero h c ∗ wSPay m h c ∗ wVPay m h c ∗ rSPay m h c ∗ rVPay m h c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (wS h) (wSlot h) (wSrc h) hs1 hd1) fun _ => .op (.waitDma2 (wV h) (wSrc h) (wSlot h) hs2 hd2) fun _ =>
                .op (.waitDma2 (rS h) (rSlot h) (rSrc h) hs3 hd3) fun _ => .op (.waitDma2 (rV h) (rSrc h) (rSlot h) hs4 hd4) k) Q) := by
  unfold hopPos hopZero
  have hlt := h.isLt
  iintro ⟨#HI, #Hlev, ⟨HatwS, HatwV, HatrS, HatrV, HcwV, HcrV⟩, HcwS, HcrS, HO⟩ Hk
  iapply (wp_arrive m K c (wS h) (isX_wS h) Nw (amt_wS h) (2 - h.val) (by omega) (by rw [slev_wS]; omega) _ (credit_wSrc h)) $$ [HcwS HO HatwS]
  · isplitr; · iexact HI
    isplitr; · iexact Hlev
    isplitl [HcwS]; · iexact HcwS
    isplitl [HO]; · iexact HO
    iexact HatwS
  iintro ⟨HO, HzwS, HpwS⟩
  iapply (wp_arrive m K c (wV h) (isX_wV h) Nw (amt_wV h) (2 - h.val) (by omega) (by rw [slev_wV]; omega) _ (credit_wSlot h)) $$ [HcwV HO HatwV]
  · isplitr; · iexact HI
    isplitr; · iexact Hlev
    isplitl [HcwV]; · iexact HcwV
    isplitl [HO]; · iexact HO
    iexact HatwV
  iintro ⟨HO, HzwV, HpwV⟩
  iapply (wp_arrive m K c (rS h) (isX_rS h) Nr (amt_rS h) (2 - h.val) (by omega) (by rw [slev_rS]; omega) _ (credit_rSrc h)) $$ [HcrS HO HatrS]
  · isplitr; · iexact HI
    isplitr; · iexact Hlev
    isplitl [HcrS]; · iexact HcrS
    isplitl [HO]; · iexact HO
    iexact HatrS
  iintro ⟨HO, HzrS, HprS⟩
  iapply (wp_arrive m K c (rV h) (isX_rV h) Nr (amt_rV h) (2 - h.val) (by omega) (by rw [slev_rV]; omega) _ (credit_rSlot h)) $$ [HcrV HO HatrV]
  · isplitr; · iexact HI
    isplitr; · iexact Hlev
    isplitl [HcrV]; · iexact HcrV
    isplitl [HO]; · iexact HO
    iexact HatrV
  iintro ⟨HO, HzrV, HprV⟩
  iapply Hk
  isplitl [HO]; · iexists _; iexact HO
  isplitl [HzwS HzwV HzrS HzrV]
  · isplitl [HzwS]; · iexact HzwS
    isplitl [HzwV]; · iexact HzwV
    isplitl [HzrS]; · iexact HzrS
    iexact HzrV
  isplitl [HpwS]; · iapply (Entails.of_eq (payload_wS m c h false)); iexact HpwS
  isplitl [HpwV]; · iapply (Entails.of_eq (payload_wV m c h false)); iexact HpwV
  isplitl [HprS]; · iapply (Entails.of_eq (payload_rS m c h false)); iexact HprS
  iapply (Entails.of_eq (payload_rV m c h false)); iexact HprV

end Hop

/-! ## The loads -/

/-- An expert's weights of a block, as the two kinds of load return them; a block of routes as its load does. -/
def ldOwn (X : S4x256x512.Idx → Elt F .f32) (el : Fin 4) : S1x256x512.Idx → Elt F .f32 := fun y => X (ix3 el (y 1) (y 2))
def ldSlot (X : S4x256x512.Idx → Elt F .f32) (el : Fin 4) : S1x1x256x512.Idx → Elt F .f32 := fun y => X (ix3 el (y 2) (y 3))
def ldRoute (X : S1024x1.Idx → Elt F .i32) : S1x1024x1.Idx → Elt F .i32 := fun y => X (ix2 (y 1) (y 2))

section Load
variable (c : Dev nD) (q : PosShare TreeShare)

/-- A load of expert `el`'s weights out of slot `h`. -/
theorem wp_load_w (h : Fin 3) (el : Fin 4) (X : S4x256x512.Idx → Elt F .f32) {o : Fin 4 → Nat} (ho : o = ![h.val, el.val, 0, 0])
    {inb : ∀ a, o a + S1x1x256x512.size a ≤ S3x4x256x512.size a}
    {hl : (Memref.whole cc0_scratch0 : Memref sig .tc .vmem S3x4x256x512 .f32).view.LoadsAt (Rect.unit (s := S3x4x256x512) o S1x1x256x512.size inb).toLoadRect}
    {α : Type} {Q : α → sProp 𝕄} {k : (S1x1x256x512.Idx → Elt F .f32) → Prog (TpuEff nD τ sig (Elt F) Λ₀ .tc) α} :
    owns (c : Thread nD τ) (wSlot h) q X
      ⊢ iprop((owns (c : Thread nD τ) (wSlot h) q X
            -∗ wp frame (wpE (defs₀ (F := F)) 𝒱₀ (c : Thread nD τ) none) Set.univ (k (ldSlot X el)) Q)
          -∗ wp frame (wpE (defs₀ (F := F)) 𝒱₀ (c : Thread nD τ) none) Set.univ
            (.op (.load (Memref.whole cc0_scratch0) (Rect.unit (s := S3x4x256x512) o S1x1x256x512.size inb).toLoadRect hl) k) Q) := by
  subst ho
  exact wp_load_slot (Memref.whole cc0_scratch0) wRect (fun _ _ => rfl) (fun _ => squeezes_S1x4x256x512_S4x256x512) c h q X
    (Rect.unit (s := S3x4x256x512) ![h.val, el.val, 0, 0] S1x1x256x512.size inb).toLoadRect (fun y => ix3 el (y 2) (y 3))
    (fun y => by
      refine Eq.trans ?_ (congrArg (wRect h).emb (reshapeEquiv_ix3_1abc _ el (y 2) (y 3))).symm
      have h0 : (y 0).val < 1 := (y 0).isLt
      have h1 : (y 1).val < 1 := (y 1).isLt
      funext a; apply Fin.ext
      match a with
      | ⟨0, _⟩ => show h.val + 1 * (y 0).val = h.val + 1 * 0; omega
      | ⟨1, _⟩ => show el.val + 1 * (y 1).val = 0 + 1 * el.val; omega
      | ⟨2, _⟩ => show 0 + 1 * (y 2).val = 0 + 1 * (y 2).val; rfl
      | ⟨3, _⟩ => show 0 + 1 * (y 3).val = 0 + 1 * (y 3).val; rfl) _

/-- A load of the routes out of slot `h`. -/
theorem wp_load_r (h : Fin 3) (X : S1024x1.Idx → Elt F .i32) {o : Fin 3 → Nat} (ho : o = ![h.val, 0, 0])
    {inb : ∀ a, o a + S1x1024x1.size a ≤ S3x1024x1.size a}
    {hl : (Memref.whole cc0_scratch1 : Memref sig .tc .vmem S3x1024x1 .i32).view.LoadsAt (Rect.unit (s := S3x1024x1) o S1x1024x1.size inb).toLoadRect}
    {α : Type} {Q : α → sProp 𝕄} {k : (S1x1024x1.Idx → Elt F .i32) → Prog (TpuEff nD τ sig (Elt F) Λ₀ .tc) α} :
    owns (c : Thread nD τ) (rSlot h) q X
      ⊢ iprop((owns (c : Thread nD τ) (rSlot h) q X
            -∗ wp frame (wpE (defs₀ (F := F)) 𝒱₀ (c : Thread nD τ) none) Set.univ (k (ldRoute X)) Q)
          -∗ wp frame (wpE (defs₀ (F := F)) 𝒱₀ (c : Thread nD τ) none) Set.univ
            (.op (.load (Memref.whole cc0_scratch1) (Rect.unit (s := S3x1024x1) o S1x1024x1.size inb).toLoadRect hl) k) Q) := by
  subst ho
  exact wp_load_slot (Memref.whole cc0_scratch1) rRect (fun _ _ => rfl) (fun _ => squeezes_S1x1024x1_S1024x1) c h q X
    (Rect.unit (s := S3x1024x1) ![h.val, 0, 0] S1x1024x1.size inb).toLoadRect (fun y => ix2 (y 1) (y 2))
    (fun y => by
      refine Eq.trans ?_ (congrArg (rRect h).emb (reshapeEquiv_ix2_1ab _ (y 1) (y 2))).symm
      have h0 : (y 0).val < 1 := (y 0).isLt
      funext a; apply Fin.ext
      match a with
      | ⟨0, _⟩ => show h.val + 1 * (y 0).val = h.val + 1 * 0; omega
      | ⟨1, _⟩ => show 0 + 1 * (y 1).val = 0 + 1 * (y 1).val; rfl
      | ⟨2, _⟩ => show 0 + 1 * (y 2).val = 0 + 1 * (y 2).val; rfl) _

/-- A load of expert `el`'s weights out of the staged own block. -/
theorem wp_load_own (el : Fin 4) (X : S4x256x512.Idx → Elt F .f32) {o : Fin 3 → Nat} (ho : o = ![el.val, 0, 0])
    {inb : ∀ a, o a + S1x256x512.size a ≤ S4x256x512.size a}
    {hl : (Memref.whole cc0_stg2_0 : Memref sig .tc .vmem S4x256x512 .f32).view.LoadsAt (Rect.unit (s := S4x256x512) o S1x256x512.size inb).toLoadRect}
    {α : Type} {Q : α → sProp 𝕄} {k : (S1x256x512.Idx → Elt F .f32) → Prog (TpuEff nD τ sig (Elt F) Λ₀ .tc) α} :
    owns (c : Thread nD τ) (Memref.whole cc0_stg2_0) q X
      ⊢ iprop((owns (c : Thread nD τ) (Memref.whole cc0_stg2_0) q X
            -∗ wp frame (wpE (defs₀ (F := F)) 𝒱₀ (c : Thread nD τ) none) Set.univ (k (ldOwn X el)) Q)
          -∗ wp frame (wpE (defs₀ (F := F)) 𝒱₀ (c : Thread nD τ) none) Set.univ
            (.op (.load (Memref.whole cc0_stg2_0) (Rect.unit (s := S4x256x512) o S1x256x512.size inb).toLoadRect hl) k) Q) := by
  subst ho
  have hval : (Memref.whole cc0_stg2_0 : Memref sig .tc .vmem S4x256x512 .f32).view.readAt (Elt F)
      (Rect.unit (s := S4x256x512) ![el.val, 0, 0] S1x256x512.size inb).toLoadRect X = ldOwn X el := by
    funext y
    show X _ = X _
    congr 1
    have h0 : (y 0).val < 1 := (y 0).isLt
    funext a; apply Fin.ext
    match a with
    | ⟨0, _⟩ => show el.val + 1 * (y 0).val = el.val; omega
    | ⟨1, _⟩ => show 0 + 1 * (y 1).val = (y 1).val; omega
    | ⟨2, _⟩ => show 0 + 1 * (y 2).val = (y 2).val; omega
  rw [← hval, show owns (c : Thread nD τ) (Memref.whole cc0_stg2_0) q X = (((c : Thread nD τ).loc cc0_stg2_0) ↦{q} X : sProp 𝕄) from owns_whole _ _ _ _]
  exact wp_load 𝒱₀ (c : Thread nD τ) none Set.univ (m := Memref.whole cc0_stg2_0) (Finset.subset_univ _)

end Load

/-! ## The value stored -/

section Value
variable (c : Dev nD)

/-- The device's number as the kernel computes it. -/
def idW : BitVec 32 := Scalar.remsi (Scalar.divsi (Dev.word c) 1#32) 4#32
/-- The owner of the weights held after `h` hops, as the kernel computes it. -/
def ownW (h : BitVec 32) : BitVec 32 := Scalar.remsi (Scalar.addi (Scalar.subi (idW c) h) 4#32) 4#32

def rV0 : IVec S1024x1 32 := k0_pay2 (F := F) (rOwn m c)
def xV0 : FVec F S1024x256 .f32 := k0_pay3 (xAt m c)

/-- The accumulator after the own block and after each hop's. -/
def acc0 : FVec F S1024x512 .f32 :=
  k0_pay6 (idW c) (rV0 m c) (xV0 m c)
    (k0_pay5 (idW c) (rV0 m c) (xV0 m c) k0_pay4 (ldOwn (wAt m 0 c) 0) (ldOwn (wAt m 0 c) 1)) 4#32
    (ldOwn (wAt m 0 c) 2) (ldOwn (wAt m 0 c) 3)
def acc1 : FVec F S1024x512 .f32 :=
  k0_pay10 (rV0 m c) (xV0 m c) (ownW c 1#32)
    (k0_pay7 (idW c) (rV0 m c) (xV0 m c) (acc0 m c) (ldSlot (wAt m 1 c) 0))
    (k0_pay8 (idW c) (rV0 m c) (xV0 m c)) (k0_pay9 (ldSlot (wAt m 1 c) 1)) (ldSlot (wAt m 1 c) 2) (ldSlot (wAt m 1 c) 3)
def acc2 : FVec F S1024x512 .f32 :=
  k0_pay15
    (k0_pay13 (rV0 m c) (xV0 m c) (ownW c 2#32) (k0_pay11 (acc1 m c)) (k0_pay12 (idW c) (rV0 m c))
      (ldSlot (wAt m 2 c) 0) (ldSlot (wAt m 2 c) 1) (ldSlot (wAt m 2 c) 2))
    (k0_pay14 (rV0 m c) (xV0 m c) (ownW c 2#32)) (ldSlot (wAt m 2 c) 3)
def acc3 : FVec F S1024x512 .f32 :=
  k0_pay17 (rV0 m c) (xV0 m c) (ownW c 3#32)
    (k0_pay16 (idW c) (rV0 m c) (xV0 m c) (acc2 m c) (ldSlot (wAt m 3 c) 0))
    (Scalar.addi (Scalar.muli (ownW c 3#32) 4#32) 1#32) (ldSlot (wAt m 3 c) 1) (ldSlot (wAt m 3 c) 2) (ldSlot (wAt m 3 c) 3)

def lanes : IVec S1024x16 32 := iota .tc S1024x16 32 [1] iota_S1024x16_d1_w32

/-- Which tokens are within their expert's capacity. -/
def survive : FVec F S1024x1 .f32 :=
  k0_pay23 (idW c) lanes (k0_pay19 (k0_pay18 (rV0 m c))) (k0_pay20 (k0_pay18 (rV0 m c)))
    (k0_pay21 (idW c) lanes (ldRoute (F := F) (rAt m 1 c))) (k0_pay22 lanes (ldRoute (F := F) (rAt m 2 c)))
    (Scalar.cmpi .slt (Scalar.remsi (Scalar.addi (Scalar.subi (Scalar.subi (idW c) 1#32) 1#32) 4#32) 4#32) (idW c))
    (Scalar.ofBits .f32 0x3F800000#32) (ldRoute (F := F) (rAt m 3 c))

def outAt : (cc0_stg3_0 : Ref sig .tc).ty.Contents (Elt F) := k0_pay1 (survive m c) (k0_pay24 (acc3 m c))

end Value

end Cert.RingProof
-- ==== Proof.Body.lean ====
/-
# The kernel's body

What a device starts from and ends with, and the body run from one to the other: the barrier, three hops (each: send
the block held on, compute with it meanwhile, wait), the capacity mask and the store.
-/
module

public import proofs.«01_k».proof.Proof.Hops

@[expose] public section

set_option maxRecDepth 16384

noncomputable section

namespace Cert.RingProof

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- What a device holds of the protocol when its body starts, at the cells' names `K`. -/
def ghost (K : Dev nD × Fin 13 → ℕ) (c : Dev nD) : sProp 𝕄 :=
  iprop(invs m K ∗ ((hopTok 0 c ∗ hopPos 0 c) ∗ (hopTok 1 c ∗ hopPos 1 c) ∗ (hopTok 2 c ∗ hopPos 2 c))
    ∗ dutyTok ER (barCell (prv c)) 0 true ∗ dutyTok ER (barCell (nxt c)) 0 false ∗ atPos ER (barCell c) 0 ∅ 0
    ∗ cred (tallyAt (barCell c) () 2) ∗ levAts L lv)

def Φ₀ (c : Dev nD) : sProp 𝕄 := iprop((∃ K, ghost m K c) ∗ slots c)
def Φ₁ (c : Dev nD) : sProp 𝕄 := iprop(slots c ∗ semVal (barCell c) 0 ∗ hopZero 0 c ∗ hopZero 1 c ∗ hopZero 2 c)

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => rOwn m c
    | ⟨2, _⟩ => wOwn m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## Whole loads and stores -/

omit [FloatOps F] in
theorem hz2 : (![0, 0] : Fin 2 → Nat) = fun _ => 0 := funext fun a => by fin_cases a <;> rfl

section Whole
variable (c : Dev nD)

/-- A load of the whole of a memref reads its contents. -/
theorem wp_load_all {s : Shape} {e : EltTy} (M : Memref sig .tc .vmem s e) (q : PosShare TreeShare) (X : s.Idx → Elt F e)
    {o : Fin s.rank → Nat} (ho : o = fun _ => 0) {inb : ∀ a, o a + s.size a ≤ s.size a}
    {hl : M.view.LoadsAt (Rect.unit o s.size inb).toLoadRect}
    {α : Type} {Q : α → sProp 𝕄} {k : (s.Idx → Elt F e) → Prog (TpuEff nD τ sig (Elt F) Λ₀ .tc) α} :
    owns (c : Thread nD τ) M q X
      ⊢ iprop((owns (c : Thread nD τ) M q X -∗ wp frame (wpE (defs₀ (F := F)) 𝒱₀ (c : Thread nD τ) none) Set.univ (k X) Q)
          -∗ wp frame (wpE (defs₀ (F := F)) 𝒱₀ (c : Thread nD τ) none) Set.univ
            (.op (.load M (Rect.unit o s.size inb).toLoadRect hl) k) Q) := by
  subst ho
  have hsub : M.view.setOn (Rect.unit (fun _ => 0) s.size inb).toLoadRect.set ⊆ M.view.set := by
    intro i hi
    obtain ⟨z, hz, rfl⟩ := Finset.mem_map.mp hi
    exact M.view.emb_mem_set z
  have hval : ∀ f : M.view.ty.Contents (Elt F), M.view.read (Elt F) f = X →
      M.view.readAt (Elt F) (Rect.unit (fun _ => 0) s.size inb).toLoadRect f = X := by
    intro f hf
    funext y
    rw [View.readAt_apply, hf]
    refine congrArg X (funext fun a => Fin.ext ?_)
    show 0 + 1 * (y a).val = (y a).val
    omega
  unfold owns
  iintro ⟨%f, %hf, H⟩ Hk
  iapply (wp_load 𝒱₀ (c : Thread nD τ) none Set.univ (m := M) (r := (Rect.unit (fun _ => 0) s.size inb).toLoadRect) hsub) $$ H
  iintro H
  rw [hval f hf]
  iapply Hk
  iexists f
  isplitr; · ipureintro; exact hf
  iexact H

theorem wp_store_out (X w : S1024x512.Idx → Elt F .f32)
    {hx : ((Memref.whole cc0_stg3_0 : Memref sig .tc .vmem S1024x512 .f32).access (Rect.unit (s := S1024x512) ![0, 0] S1024x512.size inb_S1024x512_S1024x512_0_0)).Stores Finset.univ}
    {hm} {α : Type} {Q : α → sProp 𝕄} {k : PUnit → Prog (TpuEff nD τ sig (Elt F) Λ₀ .tc) α} :
    owns (c : Thread nD τ) (Memref.whole cc0_stg3_0) fullShare X
      ⊢ iprop((owns (c : Thread nD τ) (Memref.whole cc0_stg3_0) fullShare w
            -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_stg3_0) (Rect.unit (s := S1024x512) ![0, 0] S1024x512.size inb_S1024x512_S1024x512_0_0) w Finset.univ hx hm) k) Q) := by
  rw [show owns (c : Thread nD τ) (Memref.whole cc0_stg3_0) fullShare X = (((c : Thread nD τ).loc cc0_stg3_0) ↦{fullShare} X : sProp 𝕄) from owns_whole _ _ _ _,
    show owns (c : Thread nD τ) (Memref.whole cc0_stg3_0) fullShare w = (((c : Thread nD τ).loc cc0_stg3_0) ↦{fullShare} w : sProp 𝕄) from owns_whole _ _ _ _]
  have h := wp_store (defs := defs₀ (F := F)) (Γ := .empty) 𝒱₀ (c : Thread nD τ) none Set.univ (m := (Memref.whole cc0_stg3_0 : Memref sig .tc .vmem S1024x512 .f32))
    (r := Rect.unit (s := S1024x512) ![0, 0] S1024x512.size inb_S1024x512_S1024x512_0_0) (w := w) (Mk := Finset.univ)
    (hx := hx) (hm := hm) (k := k) (Q := Q) (f := X) (Finset.subset_univ _)
  rw [show ((Memref.whole cc0_stg3_0 : Memref sig .tc .vmem S1024x512 .f32).access (Rect.unit (s := S1024x512) ![0, 0] S1024x512.size inb_S1024x512_S1024x512_0_0) : View sig .tc _ _ _).write (Elt F) X w Finset.univ = w
    from Memref.write_access_unit_zero_univ (Elt F) cc0_stg3_0 hz2 _ X w] at h
  exact h

end Whole

/-- A signal of one unit to a neighbour's barrier cell, paying its duty `d`. -/
theorem wp_ready (K : Dev nD × Fin 13 → ℕ) (c e n : Dev nD) (hn : n = e) (d : Bool) (O : CellTallies nD τ sig Unit) (W : Waits sig Unit)
    {α : Type} {Q : α → sProp 𝕄} {k : PUnit → Prog (TpuEff nD τ sig (Elt F) Λ₀ .tc) α} :
    iprop(invs m K ∗ owes (c : Thread nD τ) (O + tallyAt (barCell e) () 1) W ∗ dutyTok ER (barCell e) 0 d ∗ (ringRd (F := F) m).payload (barCell e) 0 d)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  iintro ⟨#HI, HO, Ht, Hp⟩ Hk
  ihave #Hc := (cell_bar m K n) $$ HI
  unfold cellOk
  icases Hc with ⟨%κ, #Hci, #Hr⟩
  iapply (Rounds.wp_signal 𝒱₀ ER (ringRd m) (c : Thread nD τ) none (dst := (n : Thread nD τ)) (κ := κ)
      (d := d) (by rw [duties_bar]; exact Finset.mem_univ _) ((amount_bar m n d).trans (by decide)) () O rfl) $$ [HO Ht Hp]
  · isplitr; · iexact Hci
    isplitl [HO]; · iexact HO
    isplitl [Ht]; · iexact Ht
    isplitl [Hp]; · iexact Hp
    iexact Hr
  iexact Hk

/-- The barrier wait: the next device's slots come with it, and the cell is closed. -/
theorem wp_barrier (K : Dev nD × Fin 13 → ℕ) (c : Dev nD) (W : Waits sig Unit)
    {α : Type} {Q : α → sProp 𝕄} {k : PUnit → Prog (TpuEff nD τ sig (Elt F) Λ₀ .tc) α} :
    iprop(invs m K ∗ levAts L lv ∗ cred (tallyAt (barCell c) () 2) ∗ owes (c : Thread nD τ) (owe c 3) W ∗ atPos ER (barCell c) 0 ∅ 0)
      ⊢ iprop(((owes (c : Thread nD τ) (owe c 3) (insert (SemLoc.reg barS, ()) W) ∗ semVal (barCell c) 0 ∗ slots (nxt c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  iintro ⟨#HI, #Hlev, Hc, HO, Hat⟩ Hk
  ihave #Hok := (cell_bar m K c) $$ HI
  unfold cellOk
  icases Hok with ⟨%κ, #Hci, #Hr⟩
  iapply (Rounds.wp_wait_rest_token 𝒱₀ ER (ringRd m) (c : Thread nD τ) none (κ := κ)
      (wpE_semWait_eq 𝒱₀ (c : Thread nD τ) none Set.univ) (Set.mem_univ _) () (O := owe c 3) (W := W) (R := 0) (m := 0) (T := ∅)
      (by rw [expect_bar])) $$ [Hc HO Hat]
  · isplitr; · iexact Hci
    isplitl [Hc]; · iexact Hc
    isplitl [HO]; · iexact HO
    isplitr
    · iapply (mayWait_hop c (.reg barS) 3 (by omega) (by decide)); iexact Hlev
    iexact Hat
  iintro ⟨HO, Hat, -, Hpay⟩
  imod (Rounds.cell_close ER (ringRd m) (Set.mem_univ κ) (fun h => h) (R := 0 + 1) (duties_later m (barCell c))) $$ [Hat] with Hz
  · isplitr; · iexact Hci
    iexact Hat
  ihave Hp := (show _ ⊢ _ from Entails.of_eq (rest_bar m c)) $$ Hpay
  icases Hp with ⟨-, Hs⟩
  iapply Hk
  isplitl [HO]; · iexact HO
  isplitl [Hz]; · iexact Hz
  iexact Hs

/-! ## The body -/

abbrev stg (c : Dev nD) (b : Ref sig .tc) (X : b.ty.Contents (Elt F)) : sProp 𝕄 := owns (c : Thread nD τ) (Memref.whole b) fullShare X

def bodyIn (c : Dev nD) (P : sProp 𝕄) : sProp 𝕄 :=
  iprop(P ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyOut (c : Dev nD) : sProp 𝕄 :=
  iprop(Φ₁ c ∗ (dats m 0 c).owesAt () t0_0.succ ∗ stg c cc0_stg0_0 (xAt m c) ∗ stg c cc0_stg1_0 (rOwn m c)
    ∗ stg c cc0_stg2_0 (wOwn m c) ∗ stg c cc0_stg3_0 (outAt m c))

set_option maxHeartbeats 800000 in
/-- The body, from what a device starts with to what it ends with. -/
theorem sound_body (K : Dev nD × Fin 13 → ℕ) (c : Dev nD) (Kt : PUnit → sProp 𝕄) :
    iprop(bodyIn m c (iprop(ghost m K c ∗ slots c)) ∗ (bodyOut m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton]; unfold cc0_body_skel
  simp only [k0_part14_eq_skeleton]; unfold k0_part14_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton]
  unfold k0_part1_skel k0_part2_skel k0_part3_skel k0_part4_skel k0_part5_skel k0_part6_skel k0_part7_skel k0_part8_skel
    k0_part9_skel k0_part10_skel k0_part11_skel k0_part12_skel k0_part13_skel
  simp only [semSignalWord, semWaitWord, Prog.lift, Prog.bind_op, Prog.bind_ret, Prog.pure_eq_ret, Prog.bind_assoc, wp_deviceId]
  unfold bodyIn ghost
  iintro ⟨⟨⟨⟨#HI, ⟨⟨Htok0, Hpos0⟩, ⟨Htok1, Hpos1⟩, Htok2, Hpos2⟩, HtP, HtN, HatB, HcB, #Hlev⟩, Hsl⟩,
    Ho, ⟨%d0, Hx⟩, ⟨%d1, Hr⟩, ⟨%d2, Hw⟩, ⟨%d3, Hout⟩⟩, Hk⟩
  rw [show (dats m 0 c).before (0 : Fin 4) t0_0 d0 = xAt m c from by unfold Dat.before; rw [if_pos (fetch0_0 t0_0)]; rfl,
    show (dats m 0 c).before (1 : Fin 4) t0_0 d1 = rOwn m c from by unfold Dat.before; rw [if_pos (fetch0_1 t0_0)]; rfl,
    show (dats m 0 c).before (2 : Fin 4) t0_0 d2 = wOwn m c from by unfold Dat.before; rw [if_pos (fetch0_2 t0_0)]; rfl]
  unfold Dat.owesAt Pipeline.owesWithin
  icases Ho with ⟨%W, %hW, HO⟩
  rw [show (dats m 0 c).owed t0_0.castSucc = O₀ c from rfl]
  unfold O₀
  iapply (wp_ready m K c (prv c) _ (dev1_eq c) true (O₁ c) W) $$ [HO HtP Hsl]
  · isplitr; · iexact HI
    isplitl [HO]; · iexact HO
    isplitl [HtP]; · iexact HtP
    iapply (show (slots c : sProp 𝕄) ⊢ (ringRd m).payload (barCell (prv c)) 0 true from Entails.of_eq (by rw [payload_bar, if_pos rfl, nxt_prv]))
    iexact Hsl
  iintro HO
  unfold O₁
  iapply (wp_ready m K c (nxt c) _ (dev2_eq c) false (owe c 3) W) $$ [HO HtN]
  · isplitr; · iexact HI
    isplitl [HO]; · iexact HO
    isplitl [HtN]; · iexact HtN
    iapply (show (emp : sProp 𝕄) ⊢ (ringRd m).payload (barCell (nxt c)) 0 false from Entails.of_eq (by rw [payload_bar, if_neg (by decide)]))
    iempintro
  iintro HO
  iapply (wp_barrier m K c W) $$ [HcB HO HatB]
  · isplitr; · iexact HI
    isplitr; · iexact Hlev
    isplitl [HcB]; · iexact HcB
    isplitl [HO]; · iexact HO
    iexact HatB
  iintro ⟨HO, HzB, Hsl⟩
  unfold slots
  ihave H3 := (show _ ⊢ _ from Entails.of_eq (bigSep_three _)) $$ Hsl
  icases H3 with ⟨HN0, HN1, HN2⟩
  iapply (wp_load_all c (Memref.whole cc0_stg1_0) fullShare _ hz2) $$ Hr; iintro Hr
  iapply (wp_load_all c (Memref.whole cc0_stg0_0) fullShare _ hz2) $$ Hx; iintro Hx
  iapply (wp_load_all c (Memref.whole cc0_stg3_0) fullShare _ hz2) $$ Hout; iintro Hout
  iapply (wp_store_out c _ _) $$ Hout; iintro Hout
  ihave H2 := (show (owns (c : Thread nD τ) (Memref.whole cc0_stg2_0) fullShare (wOwn m c) : sProp 𝕄) ⊢ _ from (owns_halves (c : Thread nD τ) (Memref.whole cc0_stg2_0) fullShare (wOwn m c)).1) $$ Hw
  icases H2 with ⟨HwL, HwR⟩
  ihave H2 := (show (owns (c : Thread nD τ) (Memref.whole cc0_stg1_0) fullShare (rOwn m c) : sProp 𝕄) ⊢ _ from (owns_halves (c : Thread nD τ) (Memref.whole cc0_stg1_0) fullShare (rOwn m c)).1) $$ Hr
  icases H2 with ⟨HrL, HrR⟩
  iapply (wp_hop_send m K 0 c _ _ (dev3_eq c) (dev4_eq c) _) $$ [HwL HrL HN0 HO Htok0]
  · isplitr; · iexact HI
    isplitl [HwL]; · iapply (show (owns (c : Thread nD τ) (Memref.whole cc0_stg2_0) fullShare.left (wOwn m c) : sProp 𝕄) ⊢ wSPay m 0 c from BIBase.Entails.refl); iexact HwL
    isplitl [HrL]; · iapply (show (owns (c : Thread nD τ) (Memref.whole cc0_stg1_0) fullShare.left (rOwn m c) : sProp 𝕄) ⊢ rSPay m 0 c from BIBase.Entails.refl); iexact HrL
    isplitl [HN0]; · iexact HN0
    isplitl [HO]; · iexact HO
    iexact Htok0
  iintro ⟨HcwS, HcrS, HO⟩
  iapply (wp_load_all c (Memref.whole cc0_stg3_0) fullShare _ hz2) $$ Hout; iintro Hout
  iapply (wp_load_own c fullShare.right 0 _ rfl) $$ HwR; iintro HwR
  iapply (wp_load_own c fullShare.right 1 _ rfl) $$ HwR; iintro HwR
  iapply (wp_load_own c fullShare.right 2 _ rfl) $$ HwR; iintro HwR
  iapply (wp_load_own c fullShare.right 3 _ rfl) $$ HwR; iintro HwR
  iapply (wp_load_all c (Memref.whole cc0_stg3_0) fullShare _ hz2) $$ Hout; iintro Hout
  iapply (wp_store_out c _ _) $$ Hout; iintro Hout
  iapply (wp_hop_wait m K 0 c _) $$ [Hpos0 HcwS HcrS HO]
  · isplitr; · iexact HI
    isplitr; · iexact Hlev
    isplitl [Hpos0]; · iexact Hpos0
    isplitl [HcwS]; · iexact HcwS
    isplitl [HcrS]; · iexact HcrS
    iexact HO
  iintro ⟨HOW, Hz0, HwL, Hw0, HrL, Hr0⟩
  icases HOW with ⟨%W0, HO⟩
  ihave HwL := (show ((wSPay m 0 c) : sProp 𝕄) ⊢ owns (c : Thread nD τ) (Memref.whole cc0_stg2_0) fullShare.left (wOwn m c) from BIBase.Entails.refl) $$ HwL
  ihave HrL := (show ((rSPay m 0 c) : sProp 𝕄) ⊢ owns (c : Thread nD τ) (Memref.whole cc0_stg1_0) fullShare.left (rOwn m c) from BIBase.Entails.refl) $$ HrL
  ihave Hw0 := (show ((wVPay m 0 c) : sProp 𝕄) ⊢ owns (c : Thread nD τ) (wSlot 0) fullShare (wAt m 1 c) from BIBase.Entails.refl) $$ Hw0
  ihave Hr0 := (show ((rVPay m 0 c) : sProp 𝕄) ⊢ owns (c : Thread nD τ) (rSlot 0) fullShare (rAt m 1 c) from BIBase.Entails.refl) $$ Hr0
  ihave Hw := (show iprop(owns (c : Thread nD τ) (Memref.whole cc0_stg2_0) fullShare.left (wOwn m c) ∗ owns (c : Thread nD τ) (Memref.whole cc0_stg2_0) fullShare.right (wOwn m c)) ⊢ (owns (c : Thread nD τ) (Memref.whole cc0_stg2_0) fullShare (wOwn m c) : sProp 𝕄) from (owns_halves (c : Thread nD τ) (Memref.whole cc0_stg2_0) fullShare (wOwn m c)).2) $$ [HwL HwR]
  · isplitl [HwL] <;> iassumption
  ihave Hr := (show iprop(owns (c : Thread nD τ) (Memref.whole cc0_stg1_0) fullShare.left (rOwn m c) ∗ owns (c : Thread nD τ) (Memref.whole cc0_stg1_0) fullShare.right (rOwn m c)) ⊢ (owns (c : Thread nD τ) (Memref.whole cc0_stg1_0) fullShare (rOwn m c) : sProp 𝕄) from (owns_halves (c : Thread nD τ) (Memref.whole cc0_stg1_0) fullShare (rOwn m c)).2) $$ [HrL HrR]
  · isplitl [HrL] <;> iassumption
  ihave H2 := (show (owns (c : Thread nD τ) (wSlot 0) fullShare (wAt m 1 c) : sProp 𝕄) ⊢ _ from (owns_halves (c : Thread nD τ) (wSlot 0) fullShare (wAt m 1 c)).1) $$ Hw0
  icases H2 with ⟨HwL, HwR⟩
  ihave H2 := (show (owns (c : Thread nD τ) (rSlot 0) fullShare (rAt m 1 c) : sProp 𝕄) ⊢ _ from (owns_halves (c : Thread nD τ) (rSlot 0) fullShare (rAt m 1 c)).1) $$ Hr0
  icases H2 with ⟨HrL, HrR⟩
  iapply (wp_hop_send m K 1 c _ _ (dev5_eq c) (dev6_eq c) _) $$ [HwL HrL HN1 HO Htok1]
  · isplitr; · iexact HI
    isplitl [HwL]; · iapply (show (owns (c : Thread nD τ) (wSlot 0) fullShare.left (wAt m 1 c) : sProp 𝕄) ⊢ wSPay m 1 c from BIBase.Entails.refl); iexact HwL
    isplitl [HrL]; · iapply (show (owns (c : Thread nD τ) (rSlot 0) fullShare.left (rAt m 1 c) : sProp 𝕄) ⊢ rSPay m 1 c from BIBase.Entails.refl); iexact HrL
    isplitl [HN1]; · iexact HN1
    isplitl [HO]; · iexact HO
    iexact Htok1
  iintro ⟨HcwS, HcrS, HO⟩
  iapply (wp_load_all c (Memref.whole cc0_stg3_0) fullShare _ hz2) $$ Hout; iintro Hout
  iapply (wp_load_w c fullShare.right 0 0 _ rfl) $$ HwR; iintro HwR
  iapply (wp_load_w c fullShare.right 0 1 _ rfl) $$ HwR; iintro HwR
  iapply (wp_load_w c fullShare.right 0 2 _ rfl) $$ HwR; iintro HwR
  iapply (wp_load_w c fullShare.right 0 3 _ rfl) $$ HwR; iintro HwR
  iapply (wp_load_all c (Memref.whole cc0_stg3_0) fullShare _ hz2) $$ Hout; iintro Hout
  iapply (wp_store_out c _ _) $$ Hout; iintro Hout
  iapply (wp_hop_wait m K 1 c _) $$ [Hpos1 HcwS HcrS HO]
  · isplitr; · iexact HI
    isplitr; · iexact Hlev
    isplitl [Hpos1]; · iexact Hpos1
    isplitl [HcwS]; · iexact HcwS
    isplitl [HcrS]; · iexact HcrS
    iexact HO
  iintro ⟨HOW, Hz1, HwL, Hw1, HrL, Hr1⟩
  icases HOW with ⟨%W1, HO⟩
  ihave HwL := (show ((wSPay m 1 c) : sProp 𝕄) ⊢ owns (c : Thread nD τ) (wSlot 0) fullShare.left (wAt m 1 c) from BIBase.Entails.refl) $$ HwL
  ihave HrL := (show ((rSPay m 1 c) : sProp 𝕄) ⊢ owns (c : Thread nD τ) (rSlot 0) fullShare.left (rAt m 1 c) from BIBase.Entails.refl) $$ HrL
  ihave Hw1 := (show ((wVPay m 1 c) : sProp 𝕄) ⊢ owns (c : Thread nD τ) (wSlot 1) fullShare (wAt m 2 c) from BIBase.Entails.refl) $$ Hw1
  ihave Hr1 := (show ((rVPay m 1 c) : sProp 𝕄) ⊢ owns (c : Thread nD τ) (rSlot 1) fullShare (rAt m 2 c) from BIBase.Entails.refl) $$ Hr1
  ihave Hw0 := (show iprop(owns (c : Thread nD τ) (wSlot 0) fullShare.left (wAt m 1 c) ∗ owns (c : Thread nD τ) (wSlot 0) fullShare.right (wAt m 1 c)) ⊢ (owns (c : Thread nD τ) (wSlot 0) fullShare (wAt m 1 c) : sProp 𝕄) from (owns_halves (c : Thread nD τ) (wSlot 0) fullShare (wAt m 1 c)).2) $$ [HwL HwR]
  · isplitl [HwL] <;> iassumption
  ihave Hr0 := (show iprop(owns (c : Thread nD τ) (rSlot 0) fullShare.left (rAt m 1 c) ∗ owns (c : Thread nD τ) (rSlot 0) fullShare.right (rAt m 1 c)) ⊢ (owns (c : Thread nD τ) (rSlot 0) fullShare (rAt m 1 c) : sProp 𝕄) from (owns_halves (c : Thread nD τ) (rSlot 0) fullShare (rAt m 1 c)).2) $$ [HrL HrR]
  · isplitl [HrL] <;> iassumption
  ihave H2 := (show (owns (c : Thread nD τ) (wSlot 1) fullShare (wAt m 2 c) : sProp 𝕄) ⊢ _ from (owns_halves (c : Thread nD τ) (wSlot 1) fullShare (wAt m 2 c)).1) $$ Hw1
  icases H2 with ⟨HwL, HwR⟩
  ihave H2 := (show (owns (c : Thread nD τ) (rSlot 1) fullShare (rAt m 2 c) : sProp 𝕄) ⊢ _ from (owns_halves (c : Thread nD τ) (rSlot 1) fullShare (rAt m 2 c)).1) $$ Hr1
  icases H2 with ⟨HrL, HrR⟩
  iapply (wp_hop_send m K 2 c _ _ (dev7_eq c) (dev8_eq c) _) $$ [HwL HrL HN2 HO Htok2]
  · isplitr; · iexact HI
    isplitl [HwL]; · iapply (show (owns (c : Thread nD τ) (wSlot 1) fullShare.left (wAt m 2 c) : sProp 𝕄) ⊢ wSPay m 2 c from BIBase.Entails.refl); iexact HwL
    isplitl [HrL]; · iapply (show (owns (c : Thread nD τ) (rSlot 1) fullShare.left (rAt m 2 c) : sProp 𝕄) ⊢ rSPay m 2 c from BIBase.Entails.refl); iexact HrL
    isplitl [HN2]; · iexact HN2
    isplitl [HO]; · iexact HO
    iexact Htok2
  iintro ⟨HcwS, HcrS, HO⟩
  iapply (wp_load_all c (Memref.whole cc0_stg3_0) fullShare _ hz2) $$ Hout; iintro Hout
  iapply (wp_load_w c fullShare.right 1 0 _ rfl) $$ HwR; iintro HwR
  iapply (wp_load_w c fullShare.right 1 1 _ rfl) $$ HwR; iintro HwR
  iapply (wp_load_w c fullShare.right 1 2 _ rfl) $$ HwR; iintro HwR
  iapply (wp_load_w c fullShare.right 1 3 _ rfl) $$ HwR; iintro HwR
  iapply (wp_load_all c (Memref.whole cc0_stg3_0) fullShare _ hz2) $$ Hout; iintro Hout
  iapply (wp_store_out c _ _) $$ Hout; iintro Hout
  iapply (wp_hop_wait m K 2 c _) $$ [Hpos2 HcwS HcrS HO]
  · isplitr; · iexact HI
    isplitr; · iexact Hlev
    isplitl [Hpos2]; · iexact Hpos2
    isplitl [HcwS]; · iexact HcwS
    isplitl [HcrS]; · iexact HcrS
    iexact HO
  iintro ⟨HOW, Hz2, HwL, Hw2, HrL, Hr2⟩
  icases HOW with ⟨%W2, HO⟩
  ihave HwL := (show ((wSPay m 2 c) : sProp 𝕄) ⊢ owns (c : Thread nD τ) (wSlot 1) fullShare.left (wAt m 2 c) from BIBase.Entails.refl) $$ HwL
  ihave HrL := (show ((rSPay m 2 c) : sProp 𝕄) ⊢ owns (c : Thread nD τ) (rSlot 1) fullShare.left (rAt m 2 c) from BIBase.Entails.refl) $$ HrL
  ihave Hw2 := (show ((wVPay m 2 c) : sProp 𝕄) ⊢ owns (c : Thread nD τ) (wSlot 2) fullShare (wAt m 3 c) from BIBase.Entails.refl) $$ Hw2
  ihave Hr2 := (show ((rVPay m 2 c) : sProp 𝕄) ⊢ owns (c : Thread nD τ) (rSlot 2) fullShare (rAt m 3 c) from BIBase.Entails.refl) $$ Hr2
  ihave Hw1 := (show iprop(owns (c : Thread nD τ) (wSlot 1) fullShare.left (wAt m 2 c) ∗ owns (c : Thread nD τ) (wSlot 1) fullShare.right (wAt m 2 c)) ⊢ (owns (c : Thread nD τ) (wSlot 1) fullShare (wAt m 2 c) : sProp 𝕄) from (owns_halves (c : Thread nD τ) (wSlot 1) fullShare (wAt m 2 c)).2) $$ [HwL HwR]
  · isplitl [HwL] <;> iassumption
  ihave Hr1 := (show iprop(owns (c : Thread nD τ) (rSlot 1) fullShare.left (rAt m 2 c) ∗ owns (c : Thread nD τ) (rSlot 1) fullShare.right (rAt m 2 c)) ⊢ (owns (c : Thread nD τ) (rSlot 1) fullShare (rAt m 2 c) : sProp 𝕄) from (owns_halves (c : Thread nD τ) (rSlot 1) fullShare (rAt m 2 c)).2) $$ [HrL HrR]
  · isplitl [HrL] <;> iassumption
  iapply (wp_load_all c (Memref.whole cc0_stg3_0) fullShare _ hz2) $$ Hout; iintro Hout
  iapply (wp_load_w c fullShare 2 0 _ rfl) $$ Hw2; iintro Hw2
  iapply (wp_load_w c fullShare 2 1 _ rfl) $$ Hw2; iintro Hw2
  iapply (wp_load_w c fullShare 2 2 _ rfl) $$ Hw2; iintro Hw2
  iapply (wp_load_w c fullShare 2 3 _ rfl) $$ Hw2; iintro Hw2
  iapply (wp_load_all c (Memref.whole cc0_stg3_0) fullShare _ hz2) $$ Hout; iintro Hout
  iapply (wp_store_out c _ _) $$ Hout; iintro Hout
  iapply (wp_load_r c fullShare 0 _ rfl) $$ Hr0; iintro Hr0
  iapply (wp_load_r c fullShare 1 _ rfl) $$ Hr1; iintro Hr1
  iapply (wp_load_r c fullShare 2 _ rfl) $$ Hr2; iintro Hr2
  iapply (wp_load_all c (Memref.whole cc0_stg3_0) fullShare _ hz2) $$ Hout; iintro Hout
  iapply (wp_load_all c (Memref.whole cc0_stg3_0) fullShare _ hz2) $$ Hout; iintro Hout
  iapply (wp_store_out c _ _) $$ Hout; iintro Hout
  rw [wp_ret]; imodintro
  iapply Hk
  unfold bodyOut Φ₁ slots Dat.owesAt Pipeline.owesWithin
  rw [show (dats m 0 c).owed t0_0.succ = 0 from rfl]
  isplitl [Hw0 Hr0 Hw1 Hr1 Hw2 Hr2 HzB Hz0 Hz1 Hz2]
  · isplitl [Hw0 Hr0 Hw1 Hr1 Hw2 Hr2]
    · iapply (show _ ⊢ _ from Entails.of_eq (bigSep_three _).symm)
      isplitl [Hw0 Hr0]
      · isplitl [Hw0]; · iexists _; iexact Hw0
        iexists _; iexact Hr0
      isplitl [Hw1 Hr1]
      · isplitl [Hw1]; · iexists _; iexact Hw1
        iexists _; iexact Hr1
      isplitl [Hw2]; · iexists _; iexact Hw2
      iexists _; iexact Hr2
    isplitl [HzB]; · iexact HzB
    isplitl [Hz0]; · iexact Hz0
    isplitl [Hz1] <;> iassumption
  isplitl [HO]
  · iexists W2
    isplitr; · ipureintro; exact fun _ _ => Or.inl trivial
    iexact HO
  isplitl [Hx]; · iexact Hx
  isplitl [Hr]; · iexact Hr
  isplitl [Hw]; · iexact Hw
  iexact Hout

end Cert.RingProof
-- ==== Proof.Launch.lean ====
/-
# The launch

From the machine at start to the run of the whole program: the launch element dealt to the devices, the thirteen cells of
each device opened, the tokens handed around the ring, the credit of what each device is owed, and the run.
-/
module

public import proofs.«01_k».proof.Proof.Body
public import Idealize.ShloMosaic.Lib.Pipeline.CollectiveSegs

@[expose] public section

set_option maxRecDepth 16384

noncomputable section

namespace Cert.RingProof

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's one point -/

theorem bigSep_windows (Φ : Fin cfg0.W → sProp 𝕄) : bigSep Finset.univ Φ = iprop(Φ 0 ∗ Φ 1 ∗ Φ 2 ∗ Φ 3) :=
  bigSep_W0 Φ

/-- What the pipeline asks of the body at its one point. -/
theorem body_obligation (c : Dev nD) : BodyObligation (dats (F := F) m 0 c) (defs₀ (F := F)) 𝒱₀ () Set.univ := fun t => by
  rw [fin_N0 t, bigSep_windows, bigSep_windows]
  show bodyIn m c (Φ₀ m c) ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyOut m c)
  unfold Φ₀
  have hK (K : Dev nD × Fin 13 → ℕ) := sound_body m K c fun _ => bodyOut m c
  unfold bodyIn at hK ⊢
  iintro ⟨⟨⟨%K, Hg⟩, Hs⟩, Hrest⟩
  iapply (hK K)
  isplitl [Hg Hs Hrest]
  · isplitl [Hg Hs]
    · isplitl [Hg] <;> iassumption
    iexact Hrest
  · iintro H; iexact H

/-! ## The cells of a device -/

/-- The twelve transfer semaphores, the kernel's own. -/
abbrev dsem (i : Fin 12) : SemLoc sig := osem i.succ

theorem ownSemFacts : Pipeline.OwnSemFacts cfg0.spec dsem := by decide

theorem share_eq (c : Dev nD) (w : Fin cfg0.W) : (dats m 0 c).share w = fullShare := by unfold Dat.share; split <;> rfl

theorem osem_injective : Function.Injective osem := by decide
theorem kcell_injective : Function.Injective kcell := fun a b h =>
  Prod.ext (congrArg (fun g : GSem nD τ sig => g.1.1) h) (osem_injective (congrArg Prod.snd h))

def ringCells : Finset (GSem nD τ sig) := Finset.univ.map ⟨kcell, kcell_injective⟩

/-- The duties of a device's own cells: `true` of its barrier, and `false` of each of the thirteen. -/
abbrev tokOf (cj : Dev nD × Fin 14) : GSem nD τ sig × ℕ × Bool := match cj.2 with
  | ⟨0, _⟩ => (barCell cj.1, 0, true)
  | ⟨k + 1, h⟩ => (kcell (cj.1, ⟨k, by omega⟩), 0, false)

theorem tokOf_injective : Function.Injective tokOf := by
  rintro ⟨c, j, hj⟩ ⟨c', j', hj'⟩ h
  rcases j with _ | j <;> rcases j' with _ | j'
  · have : c = c' := congrArg (fun x : GSem nD τ sig × ℕ × Bool => x.1.1.1) h
    subst this; rfl
  · exact absurd (congrArg (fun x : GSem nD τ sig × ℕ × Bool => x.2.2) h) Bool.noConfusion
  · exact absurd (congrArg (fun x : GSem nD τ sig × ℕ × Bool => x.2.2) h) Bool.noConfusion
  · have e := kcell_injective (congrArg Prod.fst h)
    have h1 : c = c' := congrArg Prod.fst e
    have h2 : j = j' := congrArg (fun x : Dev nD × Fin 13 => x.2.val) e
    subst h1 h2; rfl

def ringToks : Finset (GSem nD τ sig × ℕ × Bool) := Finset.univ.map ⟨tokOf, tokOf_injective⟩

/-- The launch element: the pipeline's and the ring's. -/
def u₀ : UU :=
  (initOf (Pipeline.cells cfgs cellOf_inj) (Pipeline.launchToks cfgs cellOf_inj), initOf ringCells ringToks)

theorem bigSep_first {T : Type} [URA T] {n : ℕ} (Φ : Fin (n + 1) → sProp T) :
    bigSep Finset.univ Φ = iprop(Φ 0 ∗ bigSep Finset.univ fun k : Fin n => Φ k.succ) := by
  rw [Fin.univ_succ, Finset.cons_eq_insert, BI.bigSep_insert (by simp), BI.bigSep_map]; rfl

/-- Hop `h`'s four cells on device `c`. -/
def hopAll (Φ : GSem nD τ sig → sProp 𝕄) (h : Fin 3) (c : Dev nD) : sProp 𝕄 :=
  iprop(Φ (wSCell h c) ∗ Φ (wVCell h c) ∗ Φ (rSCell h c) ∗ Φ (rVCell h c))

omit [FloatOps F] in
theorem bigSep_dsem (Φ : GSem nD τ sig → sProp 𝕄) (c : Dev nD) :
    (bigSep Finset.univ fun k : Fin 12 => Φ ((c : Thread nD τ), dsem k))
      = iprop(Φ (wSCell 0 c) ∗ Φ (wSCell 1 c) ∗ Φ (wSCell 2 c) ∗ Φ (wVCell 0 c) ∗ Φ (wVCell 1 c) ∗ Φ (wVCell 2 c)
        ∗ Φ (rSCell 0 c) ∗ Φ (rSCell 1 c) ∗ Φ (rSCell 2 c) ∗ Φ (rVCell 0 c) ∗ Φ (rVCell 1 c) ∗ Φ (rVCell 2 c)) :=
  bigSep_univ_eq_bigSepL [(0 : Fin 12), 1, 2, 3, 4, 5, 6, 7, 8, 9, 10, 11] (by decide) (by decide) _

omit [FloatOps F] in
/-- The twelve transfer cells, hop by hop. -/
theorem hops_of_dsem (Φ : GSem nD τ sig → sProp 𝕄) (c : Dev nD) :
    (bigSep Finset.univ fun k : Fin 12 => Φ ((c : Thread nD τ), dsem k)) ⊢ iprop(hopAll Φ 0 c ∗ hopAll Φ 1 c ∗ hopAll Φ 2 c) := by
  rw [bigSep_dsem]; unfold hopAll
  iintro ⟨A0, A1, A2, B0, B1, B2, C0, C1, C2, D0, D1, D2⟩
  isplitl [A0 B0 C0 D0]
  · isplitl [A0]; · iexact A0
    isplitl [B0]; · iexact B0
    isplitl [C0] <;> iassumption
  isplitl [A1 B1 C1 D1]
  · isplitl [A1]; · iexact A1
    isplitl [B1]; · iexact B1
    isplitl [C1] <;> iassumption
  isplitl [A2]; · iexact A2
  isplitl [B2]; · iexact B2
  isplitl [C2] <;> iassumption

omit [FloatOps F] in
theorem dsem_of_hops (Φ : GSem nD τ sig → sProp 𝕄) (c : Dev nD) :
    iprop(hopAll Φ 0 c ∗ hopAll Φ 1 c ∗ hopAll Φ 2 c) ⊢ (bigSep Finset.univ fun k : Fin 12 => Φ ((c : Thread nD τ), dsem k)) := by
  rw [bigSep_dsem]; unfold hopAll
  iintro ⟨⟨A0, B0, C0, D0⟩, ⟨A1, B1, C1, D1⟩, ⟨A2, B2, C2, D2⟩⟩
  isplitl [A0]; · iexact A0
  isplitl [A1]; · iexact A1
  isplitl [A2]; · iexact A2
  isplitl [B0]; · iexact B0
  isplitl [B1]; · iexact B1
  isplitl [B2]; · iexact B2
  isplitl [C0]; · iexact C0
  isplitl [C1]; · iexact C1
  isplitl [C2]; · iexact C2
  isplitl [D0]; · iexact D0
  isplitl [D1] <;> iassumption

omit [FloatOps F] in
/-- A device's thirteen cells: its barrier and its transfers. -/
theorem bigSep_cells (Φ : GSem nD τ sig → sProp 𝕄) (c : Dev nD) :
    (bigSep Finset.univ fun k : Fin 13 => Φ (kcell (c, k)))
      = iprop(Φ (barCell c) ∗ bigSep Finset.univ fun k : Fin 12 => Φ ((c : Thread nD τ), dsem k)) :=
  bigSep_first fun k : Fin 13 => Φ (kcell (c, k))

omit [FloatOps F] in
theorem cells_hops (Φ : GSem nD τ sig → sProp 𝕄) (c : Dev nD) :
    (bigSep Finset.univ fun k : Fin 13 => Φ (kcell (c, k))) ⊢ iprop(Φ (barCell c) ∗ hopAll Φ 0 c ∗ hopAll Φ 1 c ∗ hopAll Φ 2 c) := by
  rw [bigSep_cells]
  exact BIClass.sep_mono (BIBase.Entails.refl) (hops_of_dsem Φ c)

/-! ## The launch element dealt -/

/-- The tokens of device `c`'s own cells. -/
def toks (c : Dev nD) : sProp 𝕄 :=
  iprop(dutyTok ER (barCell c) 0 true ∗ bigSep Finset.univ fun k : Fin 13 => dutyTok ER (kcell (c, k)) 0 false)

/-- What the launch element holds for device `c`. -/
def G (c : Dev nD) : sProp 𝕄 :=
  iprop((bigSep Finset.univ fun k : Fin 13 => roundState ER (ringRd m) (kcell (c, k)) 0)
    ∗ (bigSep Finset.univ fun k : Fin 13 => iprop(atPos ER (kcell (c, k)) 0 ∅ 0 ∗ reached ER (kcell (c, k)) 0)) ∗ toks c)

omit [FloatOps F] in
theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_first]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the one that is not the kernel's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_all (c : Dev nD) :
    iprop(Pipeline.ownSems0 (Ix := Unit) (Name := ℕ) (U := UU) (Lvl := ℕ) (Val := Elt F) (τ := τ) dsem c ∗ unscopedSems0 c)
      ⊢ (bigSep Finset.univ fun k : Fin 13 => semVal (kcell (c, k)) 0 : sProp 𝕄) := by
  rw [unscopedSems0_eq, bigSep_cells (fun g => (semVal g 0 : sProp 𝕄))]
  unfold Pipeline.ownSems0
  iintro ⟨HS, HB⟩
  isplitl [HB] <;> iassumption

omit [FloatOps F] in
/-- A device's cells opened: an invariant on each. -/
theorem core_alloc (c : Dev nD) :
    iprop(Pipeline.ownSems0 (Ix := Unit) (Name := ℕ) (U := UU) (Lvl := ℕ) (Val := Elt F) (τ := τ) dsem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  have alloc : iprop((bigSep Finset.univ fun k : Fin 13 => semVal (kcell (c, k)) 0)
        ∗ bigSep Finset.univ fun k : Fin 13 => roundState ER (ringRd m) (kcell (c, k)) 0)
      ⊢ (|={Set.univ}=> bigSep Finset.univ fun k => iprop(∃ κ : ℕ, cellInv ER (ringRd m) κ (kcell (c, k))) : sProp 𝕄) := by
    rw [← bigSep_sep']
    exact (bigSep_mono fun k _ => (Rounds.body_intro ER (ringRd m) (kcell (c, k))).trans inv_alloc).trans (bigSep_fupd _ _)
  unfold G
  iintro ⟨Hos, Hus, Hst, Hat, Htok⟩
  ihave Hv := (sems0_all (F := F) c) $$ [Hos Hus]
  · isplitl [Hos] <;> iassumption
  imod alloc $$ [Hv Hst] with Hinv
  · isplitl [Hv] <;> iassumption
  imodintro
  isplitl [Hinv]; · iexact Hinv
  isplitl [Hat]; · iexact Hat
  iexact Htok

/-! ## The tokens around the ring -/

/-- The tokens of the duties device `c` pays. -/
def payToks (c : Dev nD) : sProp 𝕄 :=
  iprop(dutyTok ER (barCell (prv c)) 0 true ∗ dutyTok ER (barCell (nxt c)) 0 false ∗ hopTok 0 c ∗ hopTok 1 c ∗ hopTok 2 c)

omit [FloatOps F] in
/-- One hop's tokens: the receives' go to the device before. -/
theorem hop_around (h : Fin 3) :
    (bigSep Finset.univ fun c : Dev nD => hopAll (fun g => (dutyTok ER g 0 false : sProp 𝕄)) h c)
      = bigSep Finset.univ fun c : Dev nD => hopTok h c := by
  unfold hopAll hopTok
  simp only [bigSep_sep']
  rw [bigSep_univ_equiv ring (fun c : Dev nD => (dutyTok ER (wVCell h c) 0 false : sProp 𝕄)),
    bigSep_univ_equiv ring (fun c : Dev nD => (dutyTok ER (rVCell h c) 0 false : sProp 𝕄))]
  rfl

omit [FloatOps F] in
theorem toks_around : (bigSep Finset.univ fun c : Dev nD => (toks c : sProp 𝕄)) ⊢ bigSep Finset.univ fun c : Dev nD => payToks c := by
  refine (bigSep_mono (Ψ := fun c : Dev nD => iprop(dutyTok ER (barCell c) 0 true ∗ dutyTok ER (barCell c) 0 false
    ∗ hopAll (fun g => (dutyTok ER g 0 false : sProp 𝕄)) 0 c ∗ hopAll (fun g => (dutyTok ER g 0 false : sProp 𝕄)) 1 c
    ∗ hopAll (fun g => (dutyTok ER g 0 false : sProp 𝕄)) 2 c)) fun c _ => ?_).trans ?_
  · unfold toks
    exact BIClass.sep_mono BIBase.Entails.refl (cells_hops (fun g => (dutyTok ER g 0 false : sProp 𝕄)) c)
  · unfold payToks
    simp only [bigSep_sep']
    rw [hop_around, hop_around, hop_around,
      bigSep_univ_equiv ring (fun c : Dev nD => (dutyTok ER (barCell c) 0 false : sProp 𝕄)),
      bigSep_univ_equiv ring.symm (fun c : Dev nD => (dutyTok ER (barCell c) 0 true : sProp 𝕄))]
    exact Entails.of_eq (show (_ : sProp 𝕄) = _ from rfl)

/-- What of the protocol stays with a device once the cells are open: its positions and its tokens. -/
def linear (c : Dev nD) : sProp 𝕄 :=
  iprop((bigSep Finset.univ fun k : Fin 13 => atPos ER (kcell (c, k)) 0 ∅ 0) ∗ payToks c)

def G' (c : Dev nD) : sProp 𝕄 := iprop(∃ K, invs m K ∗ linear c)

omit [FloatOps F] in
theorem deal_persistent {I : Type} [DecidableEq I] {S : Finset I} {R : sProp 𝕄} [BI.Persistent R] {Φ : I → sProp 𝕄} :
    iprop(R ∗ bigSep S Φ) ⊢ bigSep S fun i => iprop(R ∗ Φ i) := by
  rw [bigSep_sep']
  exact BIClass.sep_mono (BI.bigSep_of_persistent S R) BIBase.Entails.refl

omit [FloatOps F] in
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 13 => iprop(∃ κ : ℕ, cellInv ER (ringRd m) κ (kcell ck))),
    bigSep_congr (s := Finset.univ) (fun (c : Dev nD) _ =>
      bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, HR⟩, Htok⟩
  ihave HK := (BI.bigSep_exists_pi Finset.univ (fun (ck : Dev nD × Fin 13) (κ : ℕ) => (cellInv ER (ringRd m) κ (kcell ck) : sProp 𝕄))) $$ HI
  icases HK with ⟨%K, HI⟩
  ihave Htk := (toks_around (F := F)) $$ Htok
  have hpair : iprop((bigSep Finset.univ fun ck : Dev nD × Fin 13 => (cellInv ER (ringRd m) (K ck) (kcell ck) : sProp 𝕄))
      ∗ bigSep Finset.univ fun ck : Dev nD × Fin 13 => (reached ER (kcell ck) 0 : sProp 𝕄)) ⊢ invs m K := by
    unfold invs; rw [bigSep_sep']
  have hlin : iprop((bigSep Finset.univ fun c : Dev nD => bigSep Finset.univ fun k : Fin 13 => (atPos ER (kcell (c, k)) 0 ∅ 0 : sProp 𝕄))
      ∗ bigSep Finset.univ fun c : Dev nD => payToks c) ⊢ bigSep Finset.univ fun c : Dev nD => (linear c : sProp 𝕄) := by
    unfold linear; rw [bigSep_sep']
  have hG : iprop(invs m K ∗ bigSep Finset.univ fun c : Dev nD => (linear c : sProp 𝕄)) ⊢ bigSep Finset.univ (G' m) :=
    deal_persistent.trans (bigSep_mono fun c _ => show iprop(invs m K ∗ linear c) ⊢ G' m c from by
      unfold G'
      iintro H
      iexists K
      iexact H)
  iapply hG
  isplitl [HI HR]
  · iapply hpair
    isplitl [HI] <;> iassumption
  · iapply hlin
    isplitl [Hat] <;> iassumption

omit [FloatOps F] in
/-- All the devices' semaphores at once become what each holds of the protocol. -/
theorem glob : (bigSep Finset.univ fun c => iprop(Pipeline.ownSems0 (Ix := Unit) (Name := ℕ) (U := UU) (Lvl := ℕ) (Val := Elt F) (τ := τ) dsem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of the launch -/

theorem cell_eq_iff {a b : Dev nD} {s s' : SemLoc sig} :
    (((a : Thread nD τ), s) : GSem nD τ sig) = ((b : Thread nD τ), s') ↔ a = b ∧ s = s' :=
  ⟨fun h => ⟨congrArg (fun g : GSem nD τ sig => g.1.1) h, congrArg Prod.snd h⟩, fun h => by rw [h.1, h.2]⟩

theorem eq_nxt_iff {c d : Dev nD} : c = nxt d ↔ d = prv c :=
  ⟨fun h => by rw [h, prv_nxt], fun h => by rw [h, nxt_prv]⟩
theorem eq_prv_iff {c d : Dev nD} : c = prv d ↔ d = nxt c :=
  ⟨fun h => by rw [h, nxt_prv], fun h => by rw [h, prv_nxt]⟩

/-- What device `d` owes the barrier cell of device `c`. -/
theorem owed_bar (d c : Dev nD) : O₀ d (barCell c) () = (if d = prv c then 1 else 0) + (if d = nxt c then 1 else 0) := by
  have h3 : owe d 3 (barCell c) () = 0 := by
    by_contra hne
    obtain ⟨h, -, e | e⟩ := owe_pos 3 le_rfl (Nat.pos_of_ne_zero hne)
    · exact absurd (cell_eq_iff.mp e).2 (fun h' => by cases h')
    · exact absurd (cell_eq_iff.mp e).2 (fun h' => by cases h')
  unfold O₀ O₁
  rw [Pi.add_apply, Finsupp.add_apply, Pi.add_apply, Finsupp.add_apply, h3, tallyAt_apply, tallyAt_apply]
  have e1 : (barCell c = barCell (nxt d) ∧ (() : Unit) = ()) ↔ d = prv c := by
    rw [cell_eq_iff, eq_nxt_iff]; exact ⟨fun h => h.1.1, fun h => ⟨⟨h, rfl⟩, rfl⟩⟩
  have e2 : (barCell c = barCell (prv d) ∧ (() : Unit) = ()) ↔ d = nxt c := by
    rw [cell_eq_iff, eq_prv_iff]; exact ⟨fun h => h.1.1, fun h => ⟨⟨h, rfl⟩, rfl⟩⟩
  rw [Nat.zero_add]
  exact congrArg₂ (· + ·) (if_congr e1 rfl rfl) (if_congr e2 rfl rfl)

theorem owed_wV (h : Fin 3) (d c : Dev nD) : O₀ d (wVCell h c) () = if d = prv c then Nw else 0 := by
  unfold O₀ O₁ owe owe owe owe
  simp only [Pi.add_apply, Finsupp.add_apply, tallyAt_apply, Pi.zero_apply, Finsupp.zero_apply, cell_eq_iff, _root_.and_true]
  fin_cases h <;> simp [eq_nxt_iff, wV, rV]

theorem owed_rV (h : Fin 3) (d c : Dev nD) : O₀ d (rVCell h c) () = if d = prv c then Nr else 0 := by
  unfold O₀ O₁ owe owe owe owe
  simp only [Pi.add_apply, Finsupp.add_apply, tallyAt_apply, Pi.zero_apply, Finsupp.zero_apply, cell_eq_iff, _root_.and_true]
  fin_cases h <;> simp [eq_nxt_iff, wV, rV]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- A cell owed `N` by the device before and nothing by another has that credit. -/
theorem launch_one (c : Dev nD) (s : SemLoc sig) (N : ℕ) (h : ∀ d, O₀ d ((c : Thread nD τ), s) () = if d = prv c then N else 0) :
    tallyOn ((c : Thread nD τ), s) (launchCredit (Pipeline.owing O₀) 0 ((c : Thread nD τ), s))
      = (tallyAt ((c : Thread nD τ), s) () N : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (prv c) fun _ => N,
    if_pos (Finset.mem_univ _)]

/-- The credit of hop `h`'s two receives. -/
def hopCred (h : Fin 3) (c : Dev nD) : sProp 𝕄 := iprop(cred (tallyAt (wVCell h c) () Nw) ∗ cred (tallyAt (rVCell h c) () Nr))

omit [FloatOps F] in
theorem creds (c : Dev nD) :
    (Pipeline.launchCred O₀ c : sProp 𝕄) ⊢ iprop(cred (tallyAt (barCell c) () 2) ∗ hopCred 0 c ∗ hopCred 1 c ∗ hopCred 2 c) := by
  unfold Pipeline.launchCred hopCred
  refine (bigSep_subset (t := [SemLoc.reg barS, .dma (wV 0), .dma (rV 0), .dma (wV 1), .dma (rV 1), .dma (wV 2), .dma (rV 2)].toFinset)
    (Finset.subset_univ _)).trans ?_
  rw [bigSep_eq_bigSepL_of_eq _ rfl (by decide)]
  simp only [bigSepL_cons_cons, bigSepL_singleton]
  rw [launch_bar, launch_one c _ _ fun d => owed_wV 0 d c, launch_one c _ _ fun d => owed_wV 1 d c, launch_one c _ _ fun d => owed_wV 2 d c,
    launch_one c _ _ fun d => owed_rV 0 d c, launch_one c _ _ fun d => owed_rV 1 d c, launch_one c _ _ fun d => owed_rV 2 d c]
  refine (show iprop(cred (tallyAt (barCell c) () 2) ∗ cred (tallyAt (wVCell 0 c) () Nw) ∗ cred (tallyAt (rVCell 0 c) () Nr)
    ∗ cred (tallyAt (wVCell 1 c) () Nw) ∗ cred (tallyAt (rVCell 1 c) () Nr) ∗ cred (tallyAt (wVCell 2 c) () Nw)
    ∗ cred (tallyAt (rVCell 2 c) () Nr)) ⊢ _ from ?_)
  iintro ⟨H, A0, B0, A1, B1, A2, B2⟩
  isplitl [H]; · iexact H
  isplitl [A0 B0]; · isplitl [A0] <;> iassumption
  isplitl [A1 B1]; · isplitl [A1] <;> iassumption
  isplitl [A2] <;> iassumption

/-! ## Into the body and out of it -/

/-- The array no window reads, as launched. -/
def kept (c : Dev nD) : sProp 𝕄 := iprop(((c : Thread nD τ).loc main_arg1) ↦{fullShare} m ((c : Thread nD τ).loc main_arg1))

omit [FloatOps F] in
theorem ghost_intro (K : Dev nD × Fin 13 → ℕ) (c : Dev nD) :
    iprop(invs m K ∗ linear c ∗ (cred (tallyAt (barCell c) () 2) ∗ hopCred 0 c ∗ hopCred 1 c ∗ hopCred 2 c) ∗ levAts L lv) ⊢ ghost m K c := by
  unfold linear payToks ghost hopCred
  iintro ⟨HI, ⟨Hat, HtP, HtN, HT0, HT1, HT2⟩, ⟨HcB, ⟨Hw0, Hr0⟩, ⟨Hw1, Hr1⟩, ⟨Hw2, Hr2⟩⟩, Hlev⟩
  ihave Hat' := (cells_hops (fun g => (atPos ER g 0 ∅ 0 : sProp 𝕄)) c) $$ Hat
  unfold hopAll
  icases Hat' with ⟨HaB, ⟨A0, B0, C0, D0⟩, ⟨A1, B1, C1, D1⟩, ⟨A2, B2, C2, D2⟩⟩
  unfold hopPos
  isplitl [HI]; · iexact HI
  isplitr [HtP HtN HaB HcB Hlev]
  · isplitl [HT0 A0 B0 C0 D0 Hw0 Hr0]
    · isplitl [HT0]; · iexact HT0
      isplitl [A0]; · iexact A0
      isplitl [B0]; · iexact B0
      isplitl [C0]; · iexact C0
      isplitl [D0]; · iexact D0
      isplitl [Hw0] <;> iassumption
    isplitl [HT1 A1 B1 C1 D1 Hw1 Hr1]
    · isplitl [HT1]; · iexact HT1
      isplitl [A1]; · iexact A1
      isplitl [B1]; · iexact B1
      isplitl [C1]; · iexact C1
      isplitl [D1]; · iexact D1
      isplitl [Hw1] <;> iassumption
    isplitl [HT2]; · iexact HT2
    isplitl [A2]; · iexact A2
    isplitl [B2]; · iexact B2
    isplitl [C2]; · iexact C2
    isplitl [D2]; · iexact D2
    isplitl [Hw2] <;> iassumption
  isplitl [HtP]; · iexact HtP
  isplitl [HtN]; · iexact HtN
  isplitl [HaB]; · iexact HaB
  isplitl [HcB] <;> iassumption

def start (c : Dev nD) : sProp 𝕄 := iprop(∃ K, ghost m K c)

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  rw [Pipeline.unscopedRestP_none, unscopedRest0_eq]
  unfold start G' kept
  iintro ⟨Hu, Hlev, Hcr, -, ⟨%K, HI, Hlin⟩⟩
  ihave Hc := (creds (F := F) c) $$ Hcr
  imodintro
  isplitr [Hu]
  · iexists K
    iapply (ghost_intro m K c)
    isplitl [HI]; · iexact HI
    isplitl [Hlin]; · iexact Hlin
    isplitl [Hc] <;> iassumption
  iexact Hu

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start
  iintro ⟨Hs, -, Hr⟩
  isplitl [Hs]; · iexact Hs
  iapply (slots_of_bufs c); iexact Hr

theorem leave (c : Dev nD) :
    (dats m 0 c).Φ (Fin.last cfg0.N) ⊢ iprop(unscopedSems0 c ∗ Pipeline.ownSems0 dsem c ∗ Pipeline.scopedRest cfg0.spec c) := by
  rw [show (dats m 0 c).Φ (Fin.last cfg0.N) = Φ₁ c from rfl, scopedRest0_eq, unscopedSems0_eq]
  unfold Φ₁ hopZero Pipeline.ownSems0
  have hz := dsem_of_hops (fun g => (semVal g 0 : sProp 𝕄)) c
  unfold hopAll at hz
  iintro ⟨Hs, HzB, Hz⟩
  isplitl [HzB]; · iexact HzB
  isplitl [Hz]
  · iapply hz; iexact Hz
  iapply (bufs_of_slots c); iexact Hs

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What is read at the end: every semaphore that outlives the region at zero, and the array no window reads as launched. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem read_end (c : Dev nD) (s' : Phys nD τ sig (Elt F)) :
    (iprop(unscopedSems0 c ∗ kept m c ∗ SI s') : sProp 𝕄) ⊢ |={Set.univ}=> iprop(⌜QY m c s'.mem⌝ ∗ SI s') := by
  unfold kept
  iintro ⟨Hu, Hz, HSI⟩
  icombine HSI Hz gives %h
  have hm : s'.mem.mem ((c : Thread nD τ).loc main_arg1) = m ((c : Thread nD τ).loc main_arg1) := Buf.eq_of_forall_mem_univ h
  imod (Pipeline.unscopedSems0_read (X := unscopedSems0 c) (c := c) fupd_intro s') $$ [Hu HSI] with ⟨%hs, HSI⟩
  · isplitl [Hu] <;> iassumption
  imodintro
  isplitr
  · ipureintro; exact ⟨hs, hm⟩
  iexact HSI

/-! ## The run -/

def finalA (c : Dev nD) (w : Fin cfg0.W) : Buf (Elt F) ((cfg0.win w).arr.view.loc (c : Thread nD τ)) := (dats m 0 c).arrAt w cfg0.N

def s₀ : MemSt nD τ sig (Elt F) := ⟨m, fun _ => 0, ρ⟩

/-- The run over any float values: it ends, each window's array at what the pipeline makes of it, the other array as
    launched, every semaphore at zero. -/
theorem run_arrays : θ_run defs (onTc (τ := τ) (main (F := F))) (s₀ m ρ) (fun r =>
    ((∀ c : Dev nD, ∀ w : Fin cfg0.W, r.2.mem ((cfg0.win w).arr.view.loc (c : Thread nD τ)) = finalA m c w)
      ∧ ∀ c : Dev nD, r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := kept m)
    (hX := start_intro m ρ) (hin := enter m) (hout := leave m)
    (QY := QY m) (hY := read_end m)
    (hQ := fun _ h hs => ⟨⟨fun c w => (h c).1 w, fun c => (h c).2.2.2⟩, sem_eq_zero hs fun c => (h c).2.2.1⟩)

/-! ## The arrays at the end -/

theorem flushed_out (c : Dev nD) (t : Fin cfg0.N) :
    (dats m 0 c).flushed 3 t = ((cfg0.win 3).blk t).view.read (Elt F) (outAt m c) := by
  obtain rfl := fin_N0 t
  have ha : (dats m 0 c).after 3 t0_0 = outAt m c := by dsimp only [dats]
  unfold Pipeline.Dat.flushed
  rw [ha]
  generalize outAt m c = X
  funext i
  refine congrArg X (funext fun a => Fin.ext ?_)
  match a with
  | ⟨0, _⟩ => show (i 0).val = 0 * 1024 + 1 * (i 0).val; omega
  | ⟨1, _⟩ => show (i 1).val = 0 * 512 + 1 * (i 1).val; omega

theorem mem_out (t : Fin cfg0.N) (i : S1024x512.Idx) : i ∈ ((cfg0.win 3).blk t).view.set := by
  show i ∈ ((View.whole main_v1).slice (win0_3.rect t)).set
  rw [View.set_slice_whole, Rect.mem_set_unit]
  have h0 : (i 0 : Nat) < 1024 := (i 0).isLt
  have h1 : (i 1 : Nat) < 512 := (i 1).isLt
  have e : win0_3.index t 0 * win0_3.size 0 = 0 ∧ win0_3.xsize (grid0.coords t) 0 = 1024
      ∧ win0_3.index t 1 * win0_3.size 1 = 0 ∧ win0_3.xsize (grid0.coords t) 1 = 512 := by
    rcases fin_N0 t with rfl; decide +kernel
  intro a
  match a with
  | ⟨0, _⟩ => show win0_3.index t 0 * win0_3.size 0 ≤ (i 0 : Nat) ∧ (i 0 : Nat) < win0_3.index t 0 * win0_3.size 0 + win0_3.xsize (grid0.coords t) 0
              rw [e.1, e.2.1]; omega
  | ⟨1, _⟩ => show win0_3.index t 1 * win0_3.size 1 ≤ (i 1 : Nat) ∧ (i 1 : Nat) < win0_3.index t 1 * win0_3.size 1 + win0_3.xsize (grid0.coords t) 1
              rw [e.2.2.1, e.2.2.2]; omega

/-- The result array ends at the body's output. -/
theorem finalA_out (c : Dev nD) : finalA m c 3 = outAt m c :=
  (dats m 0 c).arrAt_eq_of_cover 3 (outAt m c) (fun t _ => flushed_out m c t) fun i => ⟨t0_0, flush0_3 _, mem_out _ i⟩

theorem finalA_x (c : Dev nD) : finalA m c 0 = m ((c : Thread nD τ).loc main_arg0) := (dats (F := F) m 0 c).arrAt_in (0 : Fin 4) rfl _
theorem finalA_r (c : Dev nD) : finalA m c 1 = m ((c : Thread nD τ).loc main_arg2) := (dats (F := F) m 0 c).arrAt_in (1 : Fin 4) rfl _
theorem finalA_w (c : Dev nD) : finalA m c 2 = m ((c : Thread nD τ).loc main_arg3) := (dats (F := F) m 0 c).arrAt_in (2 : Fin 4) rfl _

/-- The run of the whole program, over any float values. -/
theorem run_main : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨(h.1.1 c 3).trans (finalA_out m c), (h.1.1 c 0).trans (finalA_x m c), h.1.2 c,
    (h.1.1 c 1).trans (finalA_r m c), (h.1.1 c 2).trans (finalA_w m c)⟩, h.2⟩) (run_arrays m ρ)

end Cert.RingProof

end
-- ==== Proof.Frames.lean ====
/-
# The frames

Each program ends on every run, leaves its arguments as they were and every counter at zero. Kernel and KernelIdeal are one
text read over two kinds of float values, so one run answers for both.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.RingProof

open Idealize.ShloMosaic Idealize.SL.Sem

theorem frame_ideal : Cert.quiescent_KernelIdeal := fun m ρ _ =>
  (θ_run Cert.KernelIdeal.defs _ _).mono (fun _ h => ⟨fun c => (h.1 c).2, h.2⟩) (run_main (F := Ideal) m ρ)

/-- The two programs' body tables are one table at the bit-exact values. -/
theorem same_bodies : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig)) ?_
  funext k a
  match k, a with
  | 0, (t, s) => rfl

theorem same_table : Cert.Kernel.defs (F := Bits) = Cert.KernelIdeal.defs (F := Bits) := by
  unfold Cert.Kernel.defs Cert.KernelIdeal.defs
  exact congrArg (Pipeline.defs (Cert.KernelIdeal.pcfgs (F := Bits))) same_bodies

theorem frame_kernel : Cert.quiescent_Kernel := by
  intro m ρ _
  have h := (θ_run Cert.KernelIdeal.defs _ _).mono (fun _ h => And.intro (fun c => (h.1 c).2) h.2) (run_main (F := Bits) m ρ)
  rw [show Cert.Kernel.defs (F := Bits) = Cert.KernelIdeal.defs (F := Bits) from same_table]
  exact h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingProof

end
-- ==== Proof.Value.lean ====
/-
# The value a device stores, entry by entry
-/
module

public import proofs.«01_k».proof.Proof.Hops
public import Idealize.ShloMosaic.Lib.ValueIdx
public import Idealize.ShloMosaic.Lib.ValueLayout
public import Idealize.ShloMosaic.Lib.Pointwise
public import Idealize.ShloMosaic.Lib.WordCmp
public import Idealize.ShloMosaic.Lib.Pipeline.Value

@[expose] public section

set_option maxRecDepth 16384

noncomputable section

namespace Cert.RingProof

open Cert.KernelIdeal Cert.KernelIdeal.Gen

open Idealize.ShloMosaic
open Idealize.ShloMosaic.TcCoe

/-! ## Indicators and counts -/

theorem ind_bool (p : Prop) [Decidable p] :
    FloatOps.sitofp (F := Ideal) .f32 (BitVec.setWidth 32 (BitVec.ofBool (decide p))) = if p then (1 : EReal) else 0 := by
  by_cases h : p
  · simp only [h, decide_true, if_true]
    show (((1 : ℤ) : ℝ) : EReal) = 1
    simp
  · simp only [h, decide_false, if_false]
    show (((0 : ℤ) : ℝ) : EReal) = 0
    simp

theorem ind_eq (a b : BitVec 32) :
    FloatOps.sitofp (F := Ideal) .f32 (BitVec.setWidth 32 (IntOp.cmpi CmpIPredicate.eq a b)) = if a = b then (1 : EReal) else 0 := by
  rw [WordCmp.cmpi_eq_eq, ind_bool]

theorem ind_slt (a b : Fin 1024) :
    FloatOps.sitofp (F := Ideal) .f32 (BitVec.setWidth 32 (IntOp.cmpi CmpIPredicate.slt (BitVec.ofNat 32 a.val) (BitVec.ofNat 32 b.val)))
      = if a.val < b.val then (1 : EReal) else 0 := by
  rw [WordCmp.cmpi_slt_ofNat (by have := a.isLt; norm_num; omega) (by have := b.isLt; norm_num; omega), ind_bool]

theorem lit_204 : Ideal.ofBits FTy.f32 1129054208#32 = ((204 : ℕ) : EReal) := by
  simp [Ideal.ofBits, Ideal.ieee]
  have h : (13369344 : ℝ) * ((2 : ℝ) ^ 16)⁻¹ = 204 := by norm_num
  have h' : ((13369344 : ℝ) : EReal) * (((2 : ℝ) ^ 16)⁻¹ : ℝ) = ((204 : ℝ) : EReal) := by rw [← EReal.coe_mul, h]
  exact h'

/-- A sum of indicators is a count. -/
theorem sum_ind (p : ℕ → Prop) [DecidablePred p] (n : ℕ) :
    (∑ t : Fin n, if p t.val then (1 : EReal) else 0) = (Nat.count p n : ℕ) := by
  induction n with
  | zero => simp
  | succ n ih =>
    rw [Fin.sum_univ_castSucc, Nat.count_succ]
    simp only [Fin.val_castSucc, Fin.val_last]
    rw [ih]
    split <;> simp

theorem count_below (p : ℕ → Prop) [DecidablePred p] {i n : ℕ} (h : i ≤ n) : Nat.count (fun t => t < i ∧ p t) n = Nat.count p i := by
  rw [Nat.count_eq_card_filter_range, Nat.count_eq_card_filter_range]
  congr 1; ext t; simp only [Finset.mem_filter, Finset.mem_range]
  exact ⟨fun h => ⟨h.2.1, h.2.2⟩, fun h' => ⟨lt_of_lt_of_le h'.1 h, h'.1, h'.2⟩⟩

theorem sum_ind_below (p : ℕ → Prop) [DecidablePred p] {i n : ℕ} (h : i ≤ n) :
    (∑ t : Fin n, (if t.val < i then (1 : EReal) else 0) * (if p t.val then (1 : EReal) else 0)) = (Nat.count p i : ℕ) := by
  rw [← count_below p h, ← sum_ind]
  refine Finset.sum_congr rfl fun t _ => ?_
  by_cases h1 : t.val < i <;> by_cases h2 : p t.val <;> simp [h1, h2]

/-- One expert's contribution: the rows whose route is that expert, times its matrix. -/
def part (r : IVec S1024x1 32) (x : FVec Ideal S1024x256 .f32) (own : BitVec 32) (w : FVec Ideal S256x512 .f32) : FVec Ideal S1024x512 .f32 :=
  matmul dot_S1024x256_S256x512_S1024x512_1_0_0_1_n_n none
    (mulf x (broadcastTo S1024x256 (sitofp .f32 (extui 32 (cmpi .eq r (broadcast S1024x1 own)) natLt_1_32)) broadcasts_S1024x1_S1024x256)) w
    (constant S1024x512 .f32 0x00000000#32)

theorem part_apply (r : IVec S1024x1 32) (x : FVec Ideal S1024x256 .f32) (own : BitVec 32) (w : FVec Ideal S256x512 .f32) (i : Fin 1024) (j : Fin 512) :
    part r x own w (ix2 i j) = if r (ix2 i 0) = own then ∑ k : Fin 256, x (ix2 i k) * w (ix2 k j) else 0 := by
  unfold part
  pointwise
  simp only [ind_eq]
  split
  · simp
  · simp

/-! ## The accumulator -/

section Device
variable (m : (ℓ : Loc nD τ sig) → Buf (Elt Ideal) ℓ) (c : Dev nD)

/-- The blocks of a device, read at an entry: its tokens' routes, its tokens, its experts' matrices. -/
def rt (d : Dev nD) (t : Fin 1024) : BitVec 32 := rOwn m d (ix2 t 0)
def xe (d : Dev nD) (t : Fin 1024) (k : Fin 256) : EReal := xAt m d (ix2 t k)
def we (d : Dev nD) (el : Fin 4) (k : Fin 256) (j : Fin 512) : EReal := wOwn m d (ValueIdx.ix3 el k j)

/-- What expert `el` of device `d` gives device `c`'s row `i` at column `j`. -/
def term (i : Fin 1024) (j : Fin 512) (d : Dev nD) (el : Fin 4) : EReal :=
  if rt m c i = BitVec.ofNat 32 (4 * d.val + el.val) then ∑ k : Fin 256, xe m c i k * we m d el k j else 0

theorem idW_eq : ∀ c : Dev nD, idW c = BitVec.ofNat 32 c.val := by decide +kernel

theorem word_own : ∀ (c : Dev nD) (el : Fin 4),
    Scalar.addi (Scalar.muli (idW c) 4#32) (BitVec.ofNat 32 el.val) = BitVec.ofNat 32 (4 * (back 0 c).val + el.val) := by decide +kernel

theorem word_hop : ∀ (c : Dev nD) (h : Fin 4) (el : Fin 4),
    Scalar.addi (Scalar.muli (ownW c (BitVec.ofNat 32 h.val)) 4#32) (BitVec.ofNat 32 el.val)
      = BitVec.ofNat 32 (4 * (back h.val c).val + el.val) := by decide +kernel

theorem part_own (el : Fin 4) (o : BitVec 32) (ho : o = BitVec.ofNat 32 (4 * (back 0 c).val + el.val)) (i : Fin 1024) (j : Fin 512) :
    part (rV0 m c) (xV0 m c) o (shapeCast S256x512 (ldOwn (wAt m 0 c) el) shapeCasts_S1x256x512_S256x512) (ix2 i j)
      = term m c i j (back 0 c) el := by
  rw [part_apply, ho]
  unfold term rV0 xV0 k0_pay2 k0_pay3 wAt ldOwn
  simp only [shapeCast_self]
  pointwise
  rfl

theorem part_slot (h : ℕ) (el : Fin 4) (o : BitVec 32) (ho : o = BitVec.ofNat 32 (4 * (back h c).val + el.val)) (i : Fin 1024) (j : Fin 512) :
    part (rV0 m c) (xV0 m c) o (shapeCast S256x512 (ldSlot (wAt m h c) el) shapeCasts_S1x1x256x512_S256x512) (ix2 i j)
      = term m c i j (back h c) el := by
  rw [part_apply, ho]
  unfold term rV0 xV0 k0_pay2 k0_pay3 wAt ldSlot
  simp only [shapeCast_self]
  pointwise
  rfl

theorem acc0_apply (i : Fin 1024) (j : Fin 512) : acc0 m c (ix2 i j) =
    (FloatOps.ofBits .f32 0x00000000#32 : Ideal .f32) + term m c i j (back 0 c) 0 + term m c i j (back 0 c) 1 + term m c i j (back 0 c) 2 + term m c i j (back 0 c) 3 := by
  rw [← part_own m c 0 _ (word_own c 0), ← part_own m c 1 _ (word_own c 1), ← part_own m c 2 _ (word_own c 2), ← part_own m c 3 _ (word_own c 3)]
  unfold acc0 k0_pay6 k0_pay5 k0_pay4
  simp only [shapeCast_self]
  rfl

theorem acc1_apply (i : Fin 1024) (j : Fin 512) : acc1 m c (ix2 i j) =
    acc0 m c (ix2 i j) + term m c i j (back 1 c) 0 + term m c i j (back 1 c) 1 + term m c i j (back 1 c) 2 + term m c i j (back 1 c) 3 := by
  rw [← part_slot m c 1 0 _ (word_hop c 1 0), ← part_slot m c 1 1 _ (word_hop c 1 1), ← part_slot m c 1 2 _ (word_hop c 1 2),
    ← part_slot m c 1 3 _ (word_hop c 1 3)]
  unfold acc1 k0_pay10 k0_pay9 k0_pay8 k0_pay7
  simp only [shapeCast_self]
  rfl

theorem acc2_apply (i : Fin 1024) (j : Fin 512) : acc2 m c (ix2 i j) =
    acc1 m c (ix2 i j) + term m c i j (back 2 c) 0 + term m c i j (back 2 c) 1 + term m c i j (back 2 c) 2 + term m c i j (back 2 c) 3 := by
  rw [← part_slot m c 2 0 _ (word_hop c 2 0), ← part_slot m c 2 1 _ (word_hop c 2 1), ← part_slot m c 2 2 _ (word_hop c 2 2),
    ← part_slot m c 2 3 _ (word_hop c 2 3)]
  unfold acc2 k0_pay15 k0_pay14 k0_pay13 k0_pay12 k0_pay11
  simp only [shapeCast_self]
  rfl

theorem acc3_apply (i : Fin 1024) (j : Fin 512) : acc3 m c (ix2 i j) =
    acc2 m c (ix2 i j) + term m c i j (back 3 c) 0 + term m c i j (back 3 c) 1 + term m c i j (back 3 c) 2 + term m c i j (back 3 c) 3 := by
  rw [← part_slot m c 3 0 _ (word_hop c 3 0), ← part_slot m c 3 1 _ (word_hop c 3 1), ← part_slot m c 3 2 _ (word_hop c 3 2),
    ← part_slot m c 3 3 _ (word_hop c 3 3)]
  unfold acc3 k0_pay17 k0_pay16
  simp only [shapeCast_self]
  rfl

/-- Going around the ring from `c` meets every device once. -/
theorem sum_ring {α : Type} [AddCommMonoid α] (g : Dev nD → α) : ∀ c : Dev nD,
    ∑ d, g d = g (back 0 c) + g (back 1 c) + g (back 2 c) + g (back 3 c) := by
  have key : ∀ a b d e c : Dev nD, (back 0 c = a ∧ back 1 c = b ∧ back 2 c = d ∧ back 3 c = e) → g 0 + g 1 + g 2 + g 3 = g a + g b + g d + g e →
      ∑ x, g x = g (back 0 c) + g (back 1 c) + g (back 2 c) + g (back 3 c) := by
    rintro a b d e c ⟨ha, hb, hd, he⟩ h
    rw [ha, hb, hd, he, ← h]
    exact Fin.sum_univ_four g
  intro c
  match c with
  | ⟨0, _⟩ => exact key 0 3 2 1 _ (by decide +revert) (by abel)
  | ⟨1, _⟩ => exact key 1 0 3 2 _ (by decide +revert) (by abel)
  | ⟨2, _⟩ => exact key 2 1 0 3 _ (by decide +revert) (by abel)
  | ⟨3, _⟩ => exact key 3 2 1 0 _ (by decide +revert) (by abel)

/-- Over the four hops every expert comes round once. -/
theorem sum_round (f : Dev nD → Fin 4 → EReal) : ∀ c : Dev nD,
    (((((0 + f (back 0 c) 0 + f (back 0 c) 1 + f (back 0 c) 2 + f (back 0 c) 3) + f (back 1 c) 0 + f (back 1 c) 1 + f (back 1 c) 2 + f (back 1 c) 3)
      + f (back 2 c) 0 + f (back 2 c) 1 + f (back 2 c) 2 + f (back 2 c) 3) + f (back 3 c) 0 + f (back 3 c) 1 + f (back 3 c) 2 + f (back 3 c) 3))
      = ∑ d : Dev nD, ∑ el : Fin 4, f d el := by
  intro c
  rw [sum_ring _ c]
  simp only [Fin.sum_univ_four]
  abel

theorem acc_total (i : Fin 1024) (j : Fin 512) : acc3 m c (ix2 i j) = ∑ d : Dev nD, ∑ el : Fin 4, term m c i j d el := by
  rw [acc3_apply, acc2_apply, acc1_apply, acc0_apply, show (FloatOps.ofBits .f32 0x00000000#32 : Ideal .f32) = (0 : EReal) from by
    show Ideal.ofBits .f32 0x00000000#32 = 0
    simp [Ideal.ofBits, Ideal.ieee]]
  exact sum_round (term m c i j) c

/-! ## The capacity -/

/-- How many of device `d`'s first `n` tokens chose expert `e`. -/
def chose (d : Dev nD) (e : Fin 16) (n : ℕ) : ℕ := Nat.count (fun t => ∃ h : t < 1024, rt m d ⟨t, h⟩ = BitVec.ofNat 32 e.val) n

theorem hist_eq (d : Dev nD) (e : Fin 16) :
    (∑ t : Fin 1024, if rt m d t = BitVec.ofNat 32 e.val then (1 : EReal) else 0) = (chose m d e 1024 : ℕ) := by
  unfold chose; rw [← sum_ind]
  refine Finset.sum_congr rfl fun t _ => ?_
  simp only [t.isLt, exists_true_left, Fin.eta]

theorem rank_eq (d : Dev nD) (e : Fin 16) (i : Fin 1024) :
    (∑ t : Fin 1024, (if t.val < i.val then (1 : EReal) else 0) * if rt m d t = BitVec.ofNat 32 e.val then (1 : EReal) else 0) = (chose m d e i.val : ℕ) := by
  unfold chose; rw [← sum_ind_below _ i.isLt.le]
  refine Finset.sum_congr rfl fun t _ => ?_
  simp only [t.isLt, exists_true_left, Fin.eta]

/-- The tokens of the devices before `c` that chose expert `e`. -/
def earlier (e : Fin 16) : ℕ := ∑ d : Dev nD, if d.val < c.val then chose m d e 1024 else 0

theorem word_before : ∀ (c : Dev nD) (h : Fin 3),
    Scalar.cmpi CmpIPredicate.slt (Scalar.remsi (Scalar.addi (Scalar.subi (Scalar.subi (idW c) (BitVec.ofNat 32 h.val)) 1#32) 4#32) 4#32) (idW c)
      = BitVec.ofBool (decide ((back (h.val + 1) c).val < c.val)) := by decide +kernel

theorem select_bool (p : Prop) [Decidable p] (a b : EReal) :
    (Scalar.select (BitVec.ofBool (decide p)) a b) = if p then a else b := by
  by_cases h : p <;> simp [Scalar.select, h]

theorem earlier_eq (e : Fin 16) : ((earlier m c e : ℕ) : EReal) =
    (if (back 1 c).val < c.val then ((chose m (back 1 c) e 1024 : ℕ) : EReal) else 0)
      + (if (back 2 c).val < c.val then ((chose m (back 2 c) e 1024 : ℕ) : EReal) else 0)
      + (if (back 3 c).val < c.val then ((chose m (back 3 c) e 1024 : ℕ) : EReal) else 0) := by
  unfold earlier
  rw [sum_ring _ c, show back 0 c = c from rfl, if_neg (lt_irrefl _), zero_add]
  push_cast
  simp only [Nat.cast_ite, Nat.cast_zero]

theorem survive_apply (i : Fin 1024) :
    survive m c (ix2 i 0) = if (∑ e : Fin 16, (if rt m c i = BitVec.ofNat 32 e.val then (1 : EReal) else 0)
      * ((chose m c e i.val : ℕ) + (earlier m c e : ℕ))) < ((204 : ℕ) : EReal) then 1 else 0 := by
  have hr : ∀ t : Fin 1024, rV0 m c (ix2 t 0) = rt m c t := fun t => by unfold rV0 k0_pay2; rw [shapeCast_self]; rfl
  have hl : ∀ (h : ℕ) (t : Fin 1024), ldRoute (F := Ideal) (rAt m h c) (ix3 0 t 0) = rt m (back h c) t := fun h t => rfl
  unfold survive k0_pay23 k0_pay22 k0_pay21 k0_pay20 k0_pay19 k0_pay18 lanes
  pointwise
  have e0 := word_before c 0
  have e1 := word_before c 1
  have e2 := word_before c 2
  simp only [Fin.isValue, Fin.val_zero, Fin.val_one, Fin.val_two, Nat.reduceAdd, Nat.zero_add] at e0 e1 e2
  simp only [ind_bool, ind_eq, ind_slt, lit_204, hr, hl, hist_eq, rank_eq, earlier_eq]
  rw [e0, e1, e2]
  simp only [select_bool]

/-! ## The result -/

/-- An expert's number among all of them. -/
def num (d : Dev nD) (el : Fin 4) : Fin 16 := ⟨4 * d.val + el.val, by have := d.isLt; have : nD = 4 := rfl; omega⟩

theorem word_inj (a b : Fin 16) (h : BitVec.ofNat 32 a.val = BitVec.ofNat 32 b.val) : a = b :=
  Fin.ext ((WordCmp.ofNat_eq_ofNat_iff (w := 32) (lt_trans a.isLt (by norm_num)) (lt_trans b.isLt (by norm_num))).1 h)

/-- Where an expert took a token, the token's row times the expert's matrix. -/
theorem out_apply (i : Fin 1024) (j : Fin 512) : @Eq EReal (outAt m c (ix2 i j))
    (∑ d : Dev nD, ∑ el : Fin 4, if rt m c i = BitVec.ofNat 32 (num d el).val ∧ chose m c (num d el) i.val + earlier m c (num d el) < 204
      then ∑ k : Fin 256, xe m c i k * we m d el k j else 0) := by
  have h1 : @Eq EReal (outAt m c (ix2 i j)) (acc3 m c (ix2 i j) * survive m c (ix2 i 0)) := by
    unfold outAt k0_pay1 k0_pay24
    generalize survive m c = S
    generalize acc3 m c = A
    pointwise
  rw [h1, acc_total, survive_apply]
  by_cases hx : ∃ e : Fin 16, rt m c i = BitVec.ofNat 32 e.val
  · obtain ⟨e, he⟩ := hx
    have hs : (∑ e' : Fin 16, (if rt m c i = BitVec.ofNat 32 e'.val then (1 : EReal) else 0)
        * ((chose m c e' i.val : ℕ) + (earlier m c e' : ℕ))) = ((chose m c e i.val + earlier m c e : ℕ) : EReal) := by
      rw [Finset.sum_eq_single e, if_pos he, one_mul, Nat.cast_add]
      · intro b _ hb
        rw [if_neg (fun h => hb (word_inj _ _ (h.symm.trans he))), zero_mul]
      · intro h; exact absurd (Finset.mem_univ e) h
    rw [hs]
    simp only [Nat.cast_lt]
    have hu : ∀ (d : Dev nD) (el : Fin 4), rt m c i = BitVec.ofNat 32 (num d el).val → num d el = e := fun d el h => word_inj _ _ (h.symm.trans he)
    by_cases hl : chose m c e i.val + earlier m c e < 204
    · rw [if_pos hl, mul_one]
      refine Finset.sum_congr rfl fun d _ => Finset.sum_congr rfl fun el _ => ?_
      unfold term
      refine if_congr ⟨fun h => ⟨h, ?_⟩, fun h => h.1⟩ rfl rfl
      rw [hu d el h]; exact hl
    · rw [if_neg hl, mul_zero]
      refine (Finset.sum_eq_zero fun d _ => Finset.sum_eq_zero fun el _ => if_neg fun h => ?_).symm
      rw [hu d el h.1] at h; exact hl h.2
  · have hn : ∀ (d : Dev nD) (el : Fin 4), ¬ rt m c i = BitVec.ofNat 32 (num d el).val := fun d el h => hx ⟨_, h⟩
    rw [Finset.sum_eq_zero (s := Finset.univ) (f := fun d => ∑ el, term m c i j d el) fun d _ => Finset.sum_eq_zero fun el _ => if_neg (hn d el), zero_mul]
    exact (Finset.sum_eq_zero fun d _ => Finset.sum_eq_zero fun el _ => if_neg fun h => hn d el h.1).symm

end Device

end Cert.RingProof

end
-- ==== Proof.Reference.lean ====
/-
# The reference's loop

One trip for each token: which experts take it, and how many tokens each has taken.
-/
module

public import proofs.«01_k».proof.Proof.Gen.ReferenceIdeal.Run
public import Idealize.ShloMosaic.Lib.ValueIdx
public import Idealize.ShloMosaic.Lib.ValueLayout
public import Idealize.ShloMosaic.Lib.Pointwise
public import Idealize.ShloMosaic.Lib.WordCmp
public import Idealize.ShloMosaic.Lib.DynamicIndex

@[expose] public section

set_option maxRecDepth 16384

noncomputable section

namespace Cert.ScanProof

open Cert.ReferenceIdeal Cert.ReferenceIdeal.Gen Cert.ReferenceIdeal.Value

open Idealize.ShloMosaic Idealize.ShloMosaic.TcCoe Idealize.ShloMosaic.StableHlo

/-! ## One trip, over plain arrays -/

/-- The start a counter word names. -/
def at1 (ctr : IVec S_ 32) : Fin 1 → Int := fun k => ((![ctr] : Fin 1 → IVec S_ 32) k (Shape.Idx.first h_S_)).toInt
def at2 (ctr : IVec S_ 32) : Fin 2 → Int := fun k => ((![ctr, constantI S_ 32 0#32] : Fin 2 → IVec S_ 32) k (Shape.Idx.first h_S_)).toInt

/-- The experts that take the token the counter names. -/
def takes (r : IVec S4096 32) (ids cnt : IVec S16 32) (ctr : IVec S_ 32) : IVec S16 1 :=
  andi (cmpi .eq (broadcastInDim S16 ![] bcast_S_S16 (shapeCast S_ (Host.dynamicSlice S1 r (at1 ctr) sliceFits_S4096_S1) shapeCasts_S1_S_)) ids)
    (cmpi .slt cnt (broadcastInDim S16 ![] bcast_S_S16 (constantI S_ 32 204#32)))

theorem clamp1 (h : S1.rank = S4096.rank) (t : Fin 4096) : Host.clampedStart S4096 S1 h (at1 fun _ => BitVec.ofNat 32 t.val) 0 = t.val :=
  Host.clampedStart_of_le h _ 0 t.val (toInt_ofNat_of_lt (lt_trans t.isLt (by norm_num))) (by have := t.isLt; show t.val + 1 ≤ 4096; omega)

theorem clamp2 (h : S1x16.rank = S4096x16.rank) (t : Fin 4096) :
    Host.clampedStart S4096x16 S1x16 h (at2 fun _ => BitVec.ofNat 32 t.val) 0 = t.val
      ∧ Host.clampedStart S4096x16 S1x16 h (at2 fun _ => BitVec.ofNat 32 t.val) 1 = 0 :=
  ⟨Host.clampedStart_of_le h _ 0 t.val (toInt_ofNat_of_lt (lt_trans t.isLt (by norm_num))) (by have := t.isLt; show t.val + 1 ≤ 4096; omega),
    Host.clampedStart_of_le h _ 1 0 rfl (by show 0 + 16 ≤ 16; decide)⟩

theorem takes_apply (r : IVec S4096 32) (ids cnt : IVec S16 32) (ctr : IVec S_ 32) (t : Fin 4096) (hctr : ctr = fun _ => BitVec.ofNat 32 t.val)
    (e : Fin 16) (n : ℕ) (hn : n ≤ 204)
    (hi : ids (ix1 e) = BitVec.ofNat 32 e.val) (hc : cnt (ix1 e) = BitVec.ofNat 32 n) :
    takes r ids cnt ctr (ix1 e) = BitVec.ofBool (decide (r (ix1 t) = BitVec.ofNat 32 e.val ∧ n < 204)) := by
  subst hctr
  unfold takes
  pointwise
  simp only [clamp1, Fin.eta, hi, hc]
  rw [WordCmp.cmpi_eq_eq, WordCmp.cmpi_slt_ofNat (by norm_num; omega) (by norm_num), WordCmp.andi_ofBool, Bool.decide_and]

/-- A row of the table of takings written at the counter's place. -/
theorem write_apply (T : IVec S4096x16 1) (u : IVec S16 1) (ctr : IVec S_ 32) (t : Fin 4096) (hctr : ctr = fun _ => BitVec.ofNat 32 t.val)
    (s : Fin 4096) (e : Fin 16) :
    Host.dynamicUpdateSlice T (broadcastInDim S1x16 ![1] bcast_S16_S1x16_1 u) (at2 ctr) updateFits_S4096x16_S1x16 (ix2 s e)
      = if s = t then u (ix1 e) else T (ix2 s e) := by
  subst hctr
  rw [Host.dynamicUpdateSlice_apply]
  have hc := clamp2 updateFits_S4096x16_S1x16.1 t
  by_cases hst : s = t
  · subst hst
    rw [dif_pos, if_pos rfl]
    · pointwise
      exact congrArg u (congrArg ix1 (Fin.ext (by
        show e.val - Host.clampedStart S4096x16 S1x16 _ (at2 fun _ => BitVec.ofNat 32 s.val) 1 = e.val
        rw [hc.2, Nat.sub_zero])))
    · intro a
      match a with
      | ⟨0, _⟩ => exact ⟨le_of_eq hc.1, by show s.val < Host.clampedStart S4096x16 S1x16 _ (at2 fun _ => BitVec.ofNat 32 s.val) 0 + 1; rw [hc.1]; omega⟩
      | ⟨1, _⟩ => exact ⟨by show Host.clampedStart S4096x16 S1x16 _ (at2 fun _ => BitVec.ofNat 32 s.val) 1 ≤ _; rw [hc.2]; exact Nat.zero_le _,
          by show e.val < Host.clampedStart S4096x16 S1x16 _ (at2 fun _ => BitVec.ofNat 32 s.val) 1 + 16; rw [hc.2]; have := e.isLt; omega⟩
  · rw [if_neg hst, dif_neg]
    intro h
    have h0 := h 0
    have a1 : Host.clampedStart S4096x16 S1x16 updateFits_S4096x16_S1x16.1 (at2 fun _ => BitVec.ofNat 32 t.val) 0 ≤ s.val := h0.1
    have a2 : s.val < Host.clampedStart S4096x16 S1x16 updateFits_S4096x16_S1x16.1 (at2 fun _ => BitVec.ofNat 32 t.val) 0 + 1 := h0.2
    rw [hc.1] at a1 a2
    exact hst (Fin.ext (by omega))

/-! ## All the trips -/

section Trips
variable (m : (ℓ : Loc nD τ sig) → Buf (Elt Ideal) ℓ) (c : Dev nD)

/-- Token `t`'s route. -/
def route (t : Fin 4096) : BitVec 32 := m ((c.tc : Thread nD τ).loc main_arg2) (ix2 t 0)

/-- How many of the first `n` tokens chose expert `e`. -/
def chosen (e : Fin 16) (n : ℕ) : ℕ := Nat.count (fun t => ∃ h : t < 4096, route m c ⟨t, h⟩ = BitVec.ofNat 32 e.val) n

/-- Every buffer of the loop after `k` trips. -/
def after (k : ℕ) : Valuation τ sig (Elt Ideal) := STEP^[k] (entryContents preI m c)

theorem after_succ (k : ℕ) : after m c (k + 1) = STEP (after m c k) := Function.iterate_succ_apply' _ _ _

theorem after_ids : ∀ k (e : Fin 16), (after m c k (Proc.devRef .tc main_v4_1) : IVec S16 32) (ix1 e) = BitVec.ofNat 32 e.val
  | 0, e => by
    have h : (after m c 0 (Proc.devRef .tc main_v4_1) : IVec S16 32) = iotaInDim S16 32 0 := by
      show entryContents preI m c (Proc.devRef .tc main_v4_1) = _
      simp only [entryContents, afterL_cons, afterL_nil]
      after_reads_simp
      rfl
    rw [h]
    pointwise
  | k + 1, e => by rw [after_succ, STEP_main_v4_1]; exact after_ids k e

theorem after_routes : ∀ k (t : Fin 4096), (after m c k (Proc.devRef .tc main_v4_0) : IVec S4096 32) (ix1 t) = route m c t
  | 0, t => by
    have h : (after m c 0 (Proc.devRef .tc main_v4_0) : IVec S4096 32)
        = shapeCast S4096 (m ((c.tc : Thread nD τ).loc main_arg2) : IVec S4096x1 32) shapeCasts_S4096x1_S4096 := by
      show entryContents preI m c (Proc.devRef .tc main_v4_0) = _
      simp only [entryContents, afterL_cons, afterL_nil]
      after_reads_simp
      rfl
    rw [h]
    unfold route
    pointwise
  | k + 1, t => by rw [after_succ, STEP_main_v4_0]; exact after_routes k t

theorem after_ctr : ∀ k, (after m c k (Proc.devRef .tc main_v4_2) : IVec S_ 32) = fun _ => BitVec.ofNat 32 k
  | 0 => ctr_entry m c
  | k + 1 => by
    rw [after_succ, STEP_main_v4_2]
    unfold step_main_v4_2
    rw [after_ctr k]
    funext j
    show BitVec.ofNat 32 k + 1#32 = BitVec.ofNat 32 (k + 1)
    rw [BitVec.ofNat_add]

/-- The experts that take token `k`, in terms of the counts before it. -/
theorem after_takes (k : Fin 4096) (e : Fin 16)
    (hc : (after m c k.val (Proc.devRef .tc main_v4_3) : IVec S16 32) (ix1 e) = BitVec.ofNat 32 (min 204 (chosen m c e k.val))) :
    (res_main_while0b_v14 (after m c k.val) : IVec S16 1) (ix1 e)
      = BitVec.ofBool (decide (route m c k = BitVec.ofNat 32 e.val ∧ chosen m c e k.val < 204)) := by
  have h := takes_apply (after m c k.val (Proc.devRef .tc main_v4_0)) (after m c k.val (Proc.devRef .tc main_v4_1))
    (after m c k.val (Proc.devRef .tc main_v4_3)) (after m c k.val (Proc.devRef .tc main_v4_2)) k (after_ctr m c k.val) e _ (Nat.min_le_left _ _) (after_ids m c k.val e) hc
  rw [after_routes] at h
  refine Eq.trans ?_ (h.trans ?_)
  · rfl
  · congr 2
    simp only [eq_iff_iff, and_congr_right_iff]
    omega

theorem after_counts : ∀ k, k ≤ 4096 → ∀ e : Fin 16,
    (after m c k (Proc.devRef .tc main_v4_3) : IVec S16 32) (ix1 e) = BitVec.ofNat 32 (min 204 (chosen m c e k))
  | 0, _, e => by
    have h : (after m c 0 (Proc.devRef .tc main_v4_3) : IVec S16 32) = broadcastInDim S16 ![] bcast_S_S16 (constantI S_ 32 0#32) := by
      show entryContents preI m c (Proc.devRef .tc main_v4_3) = _
      simp only [entryContents, afterL_cons, afterL_nil]
      after_reads_simp
      rfl
    rw [h]
    unfold chosen
    pointwise
    simp
  | k + 1, hk, e => by
    have ih := after_counts k (by omega) e
    have ht := after_takes m c ⟨k, by omega⟩ e ih
    rw [after_succ, STEP_main_v4_3]
    show IntOp.addi ((after m c k (Proc.devRef .tc main_v4_3) : IVec S16 32) (ix1 e)) (BitVec.setWidth 32 ((res_main_while0b_v14 (after m c k) : IVec S16 1) (ix1 e))) = _
    rw [ih, ht]
    have hs : chosen m c e (k + 1) = chosen m c e k + if route m c ⟨k, by omega⟩ = BitVec.ofNat 32 e.val then 1 else 0 := by
      unfold chosen
      rw [Nat.count_succ]
      have hk' : k < 4096 := by omega
      simp only [hk', exists_true_left]
    rw [hs]
    by_cases h1 : route m c ⟨k, by omega⟩ = BitVec.ofNat 32 e.val <;> by_cases h2 : chosen m c e k < 204
    · simp only [h1, h2, and_self, decide_true, if_true]
      rw [Nat.min_eq_right h2.le, Nat.min_eq_right h2]
      show BitVec.ofNat 32 _ + 1#32 = _
      rw [Nat.succ_eq_add_one, BitVec.ofNat_add]
    · simp only [h1, h2, and_false, decide_false, if_true]
      rw [Nat.min_eq_left (by omega), Nat.min_eq_left (by omega)]
      rfl
    · simp only [h1, false_and, decide_false, if_false, Nat.add_zero]
      exact BitVec.add_zero _
    · simp only [h1, false_and, decide_false, if_false, Nat.add_zero]
      exact BitVec.add_zero _

theorem after_table : ∀ k, k ≤ 4096 → ∀ (s : Fin 4096) (e : Fin 16),
    (after m c k (Proc.devRef .tc main_v4_4) : IVec S4096x16 1) (ix2 s e)
      = BitVec.ofBool (decide (s.val < k ∧ route m c s = BitVec.ofNat 32 e.val ∧ chosen m c e s.val < 204))
  | 0, _, s, e => by
    have h : (after m c 0 (Proc.devRef .tc main_v4_4) : IVec S4096x16 1) = broadcastInDim S4096x16 ![] bcast_S_S4096x16 (constantI S_ 1 0#1) := by
      show entryContents preI m c (Proc.devRef .tc main_v4_4) = _
      simp only [entryContents, afterL_cons, afterL_nil]
      after_reads_simp
      rfl
    rw [h]
    pointwise
    simp
  | k + 1, hk, s, e => by
    have ih := after_table k (by omega) s e
    have ht := after_takes m c ⟨k, by omega⟩ e (after_counts m c k (by omega) e)
    have hw := write_apply (after m c k (Proc.devRef .tc main_v4_4)) (res_main_while0b_v14 (after m c k))
      (after m c k (Proc.devRef .tc main_v4_2)) ⟨k, by omega⟩ (after_ctr m c k) s e
    rw [after_succ, STEP_main_v4_4]
    refine Eq.trans ?_ (hw.trans ?_)
    · rfl
    · rw [ih, ht]
      by_cases hsk : s = ⟨k, by omega⟩
      · subst hsk
        rw [if_pos rfl]
        simp
      · have hne : s.val ≠ k := fun h => hsk (Fin.ext h)
        rw [if_neg hsk]
        congr 2
        simp only [eq_iff_iff, and_congr_left_iff]
        omega

/-- The operations after the loop, over plain arrays. -/
def combine (T : IVec S4096x16 1) (x : FVec Ideal S4096x256 .f32) (w : FVec Ideal S16x256x512 .f32) : FVec Ideal S4096x512 .f32 :=
  Host.reduceAdd (select (broadcastInDim S4096x16x512 ![0, 1, 2] bcast_S4096x16x1_S4096x16x512_0_1_2
      (broadcastInDim S4096x16x1 ![0, 1] bcast_S4096x16_S4096x16x1_0_1 T))
    (Host.dotGeneral dot_S4096x256_S16x256x512_S4096x16x512_1_1_0_02_n_n none x w)
    (broadcastInDim S4096x16x512 ![] bcast_S_S4096x16x512 (id (constant (F := Ideal) S_ .f32 0x00000000#32))))
    (constant (F := Ideal) S_ .f32 0x00000000#32) reducesTo_S4096x16x512_S4096x512_d1 h_S_

theorem combine_apply (T : IVec S4096x16 1) (x : FVec Ideal S4096x256 .f32) (w : FVec Ideal S16x256x512 .f32) (t : Fin 4096) (j : Fin 512) :
    @Eq EReal (combine T x w (ix2 t j)) (∑ e : Fin 16, if T (ix2 t e) = 1#1 then ∑ k : Fin 256, x (ix2 t k) * w (ix3 e k j) else 0) := by
  unfold combine
  pointwise
  refine Finset.sum_congr rfl fun e _ => ?_
  have hz : (id (constant (F := Ideal) S_ .f32 0x00000000#32) ix0 : EReal) = 0 := by
    show Ideal.ofBits .f32 0x00000000#32 = 0
    simp [Ideal.ofBits, Ideal.ieee]
  rw [hz]
  rfl

/-- The tokens and the experts' matrices, read at an entry. -/
def xw (t : Fin 4096) (k : Fin 256) : EReal := m ((c.tc : Thread nD τ).loc main_arg0) (ix2 t k)
def ww (e : Fin 16) (k : Fin 256) (j : Fin 512) : EReal := m ((c.tc : Thread nD τ).loc main_arg3) (ix3 e k j)

/-- The reference's result: where an expert took a token, the token's row times the expert's matrix. -/
def result : FVec Ideal S4096x512 .f32 := out_main_v8 (after m c 4096)

theorem result_apply (t : Fin 4096) (j : Fin 512) :
    @Eq EReal (result m c (ix2 t j)) (∑ e : Fin 16, if route m c t = BitVec.ofNat 32 e.val ∧ chosen m c e t.val < 204
      then ∑ k : Fin 256, xw m c t k * ww m c e k j else 0) := by
  have h : result m c = combine (after m c 4096 (Proc.devRef .tc main_v4_4)) (m ((c.tc : Thread nD τ).loc main_arg0))
      (m ((c.tc : Thread nD τ).loc main_arg3)) := by
    rw [← iter_main_arg0 m c 4096, ← iter_main_arg3 m c 4096]
    rfl
  rw [h, combine_apply]
  refine Finset.sum_congr rfl fun e _ => ?_
  rw [after_table m c 4096 (le_refl _) t e]
  refine if_congr ?_ rfl rfl
  rw [WordCmp.ofBool_decide_eq_one_iff]
  exact ⟨fun h => h.2, fun h => ⟨t.isLt, h⟩⟩

end Trips

end Cert.ScanProof

end
-- ==== Proof.Algebra.lean ====
/-
# The two programs compute one thing
-/
module

public import proofs.«01_k».proof.Defs
public import proofs.«01_k».proof.Proof.Launch
public import proofs.«01_k».proof.Proof.Value
public import proofs.«01_k».proof.Proof.Reference
public import Idealize.ShloMosaic.Lib.Layout

@[expose] public section

set_option maxRecDepth 16384

noncomputable section

namespace Cert.RingProof

open Idealize.ShloMosaic Idealize.SL.Sem Idealize.ShloMosaic.TcCoe

section Reads
open Cert.KernelIdeal Cert.KernelIdeal.Gen
variable (m : (ℓ : Loc nD τ sig) → Buf (Elt Ideal) ℓ) (c : Dev nD)

theorem xAt_eq : xAt m c = m ((c : Thread nD τ).loc main_arg0) := by
  generalize hX : m ((c : Thread nD τ).loc main_arg0) = X
  funext y
  unfold xAt
  rw [hX]
  refine congrArg X (funext fun a => Fin.ext ?_)
  match a with
  | ⟨0, _⟩ => show 0 * 1024 + 1 * (y 0).val = (y 0).val; omega
  | ⟨1, _⟩ => show 0 * 256 + 1 * (y 1).val = (y 1).val; omega

theorem rOwn_eq : rOwn m c = m ((c : Thread nD τ).loc main_arg2) := by
  generalize hX : m ((c : Thread nD τ).loc main_arg2) = X
  funext y
  unfold rOwn
  rw [hX]
  refine congrArg X (funext fun a => Fin.ext ?_)
  match a with
  | ⟨0, _⟩ => show 0 * 1024 + 1 * (y 0).val = (y 0).val; omega
  | ⟨1, _⟩ => show 0 * 1 + 1 * (y 1).val = (y 1).val; omega

theorem wOwn_eq : wOwn m c = m ((c : Thread nD τ).loc main_arg3) := by
  generalize hX : m ((c : Thread nD τ).loc main_arg3) = X
  funext y
  unfold wOwn
  rw [hX]
  refine congrArg X (funext fun a => Fin.ext ?_)
  match a with
  | ⟨0, _⟩ => show 0 * 4 + 1 * (y 0).val = (y 0).val; omega
  | ⟨1, _⟩ => show 0 * 256 + 1 * (y 1).val = (y 1).val; omega
  | ⟨2, _⟩ => show 0 * 512 + 1 * (y 2).val = (y 2).val; omega

end Reads

/-- A device's row among all the rows. -/
def row (d : Dev Cert.KernelIdeal.nD) (t : Fin 1024) : Fin 4096 :=
  ⟨1024 * d.val + t.val, by have := d.isLt; have : Cert.KernelIdeal.nD = 4 := rfl; omega⟩

section Agree
variable {m : (ℓ : Loc Cert.KernelIdeal.nD Cert.KernelIdeal.τ Cert.KernelIdeal.sig) → Buf (Elt Ideal) ℓ}
variable {m' : (ℓ : Loc Cert.ReferenceIdeal.nD Cert.ReferenceIdeal.τ Cert.ReferenceIdeal.sig) → Buf (Elt Ideal) ℓ}

/-- How many of the first tokens chose an expert, counted device by device. -/
theorem chosen_split (hr : ∀ (d : Dev Cert.KernelIdeal.nD) (t : Fin 1024), rt m d t = Cert.ScanProof.route m' 0 (row d t)) (e : Fin 16) :
    (∀ (d : Dev Cert.KernelIdeal.nD) (n : ℕ), n ≤ 1024 →
      Cert.ScanProof.chosen m' 0 e (1024 * d.val + n) = Cert.ScanProof.chosen m' 0 e (1024 * d.val) + chose m d e n)
    ∧ ∀ n : ℕ, n ≤ 4 → Cert.ScanProof.chosen m' 0 e (1024 * n) = ∑ d : Dev Cert.KernelIdeal.nD, if d.val < n then chose m d e 1024 else 0 := by
  have h1 : ∀ (d : Dev Cert.KernelIdeal.nD) (n : ℕ), n ≤ 1024 →
      Cert.ScanProof.chosen m' 0 e (1024 * d.val + n) = Cert.ScanProof.chosen m' 0 e (1024 * d.val) + chose m d e n := by
    intro d n hn
    unfold Cert.ScanProof.chosen chose
    rw [Nat.count_add]
    congr 1
    rw [Nat.count_eq_card_filter_range, Nat.count_eq_card_filter_range]
    congr 1
    refine Finset.filter_congr fun t ht => ?_
    have ht' : t < 1024 := lt_of_lt_of_le (Finset.mem_range.1 ht) hn
    have hd : 1024 * d.val + t < 4096 := (row d ⟨t, ht'⟩).isLt
    simp only [ht', hd, exists_true_left, hr]
    rfl
  refine ⟨h1, fun n => ?_⟩
  induction n with
  | zero => intro _; simp [Cert.ScanProof.chosen]
  | succ n ih =>
    intro hn
    have hd := h1 ⟨n, by show n < 4; omega⟩ 1024 (le_refl _)
    rw [show 1024 * (n + 1) = 1024 * n + 1024 from by omega]
    refine hd.trans ?_
    show Cert.ScanProof.chosen m' 0 e (1024 * n) + _ = _
    rw [ih (by omega)]
    have hs : ∀ d : Dev Cert.KernelIdeal.nD, (if d.val < n + 1 then chose m d e 1024 else 0)
        = (if d.val < n then chose m d e 1024 else 0) + if d = ⟨n, by show n < 4; omega⟩ then chose m d e 1024 else 0 := by
      intro d
      by_cases ha : d.val < n
      · rw [if_pos (by omega), if_pos ha, if_neg (fun h => by rw [h] at ha; exact absurd ha (lt_irrefl _)), Nat.add_zero]
      · by_cases hb : d.val = n
        · rw [if_pos (by omega), if_neg ha, if_pos (Fin.ext hb), Nat.zero_add]
        · rw [if_neg (by omega), if_neg ha, if_neg (fun h => hb (congrArg Fin.val h))]
    rw [Finset.sum_congr rfl fun d _ => hs d, Finset.sum_add_distrib, Finset.sum_ite_eq' Finset.univ]
    simp

/-- A sum over the experts, device by device. -/
theorem sum_experts (f : Fin 16 → EReal) : ∑ e, f e = ∑ d : Dev Cert.KernelIdeal.nD, ∑ el : Fin 4, f (num d el) := by
  rw [← Fintype.sum_prod_type', ← (finProdFinEquiv (m := 4) (n := 4)).sum_comp f]
  refine Finset.sum_congr rfl fun p _ => congrArg f (Fin.ext ?_)
  show p.2.val + 4 * p.1.val = 4 * p.1.val + p.2.val
  omega

/-- Where the arguments agree, a device's output is its block of the reference's. -/
theorem out_eq (c : Dev Cert.KernelIdeal.nD)
    (hr : ∀ (d : Dev Cert.KernelIdeal.nD) (t : Fin 1024), rt m d t = Cert.ScanProof.route m' 0 (row d t))
    (hx : ∀ (d : Dev Cert.KernelIdeal.nD) (t : Fin 1024) (k : Fin 256), xe m d t k = Cert.ScanProof.xw m' 0 (row d t) k)
    (hw : ∀ (d : Dev Cert.KernelIdeal.nD) (el : Fin 4) (k : Fin 256) (j : Fin 512), we m d el k j = Cert.ScanProof.ww m' 0 (num d el) k j)
    (i : Fin 1024) (j : Fin 512) :
    @Eq EReal (outAt m c (ix2 i j)) (Cert.ScanProof.result m' 0 (ix2 (row c i) j)) := by
  rw [out_apply, Cert.ScanProof.result_apply, sum_experts]
  refine Finset.sum_congr rfl fun d _ => Finset.sum_congr rfl fun el _ => ?_
  have hs := chosen_split hr (num d el)
  have hc : chose m c (num d el) i.val + earlier m c (num d el) = Cert.ScanProof.chosen m' 0 (num d el) (row c i).val := by
    refine Eq.trans ?_ (hs.1 c i.val (le_of_lt i.isLt)).symm
    rw [hs.2 c.val (le_of_lt c.isLt), Nat.add_comm]
    rfl
  simp only [hc, hr, hx, hw]

end Agree

/-- A device's output is its block of the reference's result. -/
theorem algebraic : Cert.algebraic_KernelIdeal_ReferenceIdeal := by
  intro m g m' g' _ hag
  have hr : ∀ (d : Dev Cert.KernelIdeal.nD) (t : Fin 1024), rt m d t = Cert.ScanProof.route m' 0 (row d t) := by
    intro d t
    unfold rt Cert.ScanProof.route
    rw [rOwn_eq, (hag d).2.2.1, Layout.block_apply]
    refine congrArg _ (funext fun a => Fin.ext ?_)
    rw [Layout.Tiles.idx_val]
    match a with
    | ⟨0, _⟩ => show d.val * 1024 + t.val = 1024 * d.val + t.val; omega
    | ⟨1, _⟩ => rfl
  have hx : ∀ (d : Dev Cert.KernelIdeal.nD) (t : Fin 1024) (k : Fin 256), xe m d t k = Cert.ScanProof.xw m' 0 (row d t) k := by
    intro d t k
    unfold xe Cert.ScanProof.xw
    rw [xAt_eq, (hag d).1, Layout.block_apply]
    refine congrArg _ (funext fun a => Fin.ext ?_)
    rw [Layout.Tiles.idx_val]
    match a with
    | ⟨0, _⟩ => show d.val * 1024 + t.val = 1024 * d.val + t.val; omega
    | ⟨1, _⟩ => rfl
  have hw : ∀ (d : Dev Cert.KernelIdeal.nD) (el : Fin 4) (k : Fin 256) (j : Fin 512), we m d el k j = Cert.ScanProof.ww m' 0 (num d el) k j := by
    intro d el k j
    unfold we Cert.ScanProof.ww
    rw [wOwn_eq, (hag d).2.2.2, Layout.block_apply]
    refine congrArg _ (funext fun a => Fin.ext ?_)
    rw [Layout.Tiles.idx_val]
    match a with
    | ⟨0, _⟩ => show d.val * 4 + el.val = 4 * d.val + el.val; omega
    | ⟨1, _⟩ => rfl
    | ⟨2, _⟩ => rfl
  refine ⟨Cert.ScanProof.result m' 0, ?_, ?_⟩
  · refine (θ_run _ _ _).mono (fun _ h c => ⟨?_, (h.1 c).2⟩) (run_main m g)
    refine (h.1 c).1.trans (funext fun y => ?_)
    rw [Layout.block_apply]
    have hy : y = ix2 (y 0) (y 1) := by
      funext a
      match a with
      | ⟨0, _⟩ => rfl
      | ⟨1, _⟩ => rfl
    have hk := out_eq c hr hx hw (y 0) (y 1)
    refine (congrArg (outAt m c) hy).trans (Eq.trans hk ?_)
    refine congrArg _ (funext fun a => Fin.ext ?_)
    rw [Layout.Tiles.idx_val]
    match a with
    | ⟨0, _⟩ => show 1024 * c.val + (y 0).val = c.val * 1024 + (y 0).val; omega
    | ⟨1, _⟩ => rfl
  · exact (θ_run _ _ _).mono (fun _ h => h 0) (Cert.ReferenceIdeal.Value.run m' g')

end Cert.RingProof

end
-- ==== Proof.lean ====
/-
# The certificate

The three programs' frames are in `Proof.Frames`. The kernel's value is in `Proof.Value`, the
reference's in `Proof.Reference`, and `Proof.Algebra` says that they are one. Nothing was rewritten
between the kernel and its ideal program, so `preserves` asks for nothing.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.RingProof.frame_kernel, Cert.RingProof.frame_ideal, Cert.RingProof.frame_reference, trivial,
  Cert.RingProof.algebraic⟩

end Cert.Proof

end
